-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_layer [hPre_finite_layer : Cert.Pre_finite_layer.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_layer.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_layer [hPre_finite_layer : Cert.Pre_finite_layer.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_layer.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_layer [hKernel3Ideal : Cert.Kernel3Ideal.Facts] [hPre_finite_layer : Cert.Pre_finite_layer.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_layer m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_layer [hReference3Ideal : Cert.Reference3Ideal.Facts] [hPre_finite_layer : Cert.Pre_finite_layer.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_layer m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite_layer [hKernel3Ideal : Cert.Kernel3Ideal.Facts] [hReference3Ideal : Cert.Reference3Ideal.Facts] [hPre_finite_layer : Cert.Pre_finite_layer.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_layer m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v13_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v98_2)) (v1 : (c : Dev Cert.Kernel4Ideal.nD) → Buf (Elt Ideal) ((c.tc : Thread Cert.Kernel4Ideal.nD Cert.Kernel4Ideal.τ).loc Cert.Kernel4Ideal.main_v98_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v98_2) = v0 c
          ∧ r.2.mem ((c.tc : Thread Cert.Kernel4Ideal.nD Cert.Kernel4Ideal.τ).loc Cert.Kernel4Ideal.main_v98_3) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_finite_layer : Cert.Pre_finite_layer.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_layer (hKernel3Ideal := hKernel3Ideal) (hPre_finite_layer := hPre_finite_layer)
    ∧ quiescent_Reference3Ideal (hReference3Ideal := hReference3Ideal)
    ∧ quiescent_Reference3Ideal_pre_finite_layer (hReference3Ideal := hReference3Ideal) (hPre_finite_layer := hPre_finite_layer)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_layer (hKernel3Ideal := hKernel3Ideal) (hReference3Ideal := hReference3Ideal) (hPre_finite_layer := hPre_finite_layer)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_layer.lean ====
abbrev S2x16384x512 : Shape := ⟨3, ![2, 16384, 512]⟩
abbrev S2x16384x1024 : Shape := ⟨3, ![2, 16384, 1024]⟩
abbrev S2x6144 : Shape := ⟨2, ![2, 6144]⟩
abbrev S1024 : Shape := ⟨1, ![1024]⟩
abbrev S1024x1024 : Shape := ⟨2, ![1024, 1024]⟩
abbrev S1024x16 : Shape := ⟨2, ![1024, 16]⟩
abbrev S16 : Shape := ⟨1, ![16]⟩
abbrev S_ : Shape := ⟨0, ![]⟩

class Facts : Prop where
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel
  bcast_S_S2x16384x1024 : S_.BroadcastsInDim S2x16384x1024 (![] : Fin 0 → Fin S2x16384x1024.rank)
  reducesTo_S2x16384x1024_S_d0_1_2 : S2x16384x1024.ReducesTo [0, 1, 2] S_
  bcast_S_S2x6144 : S_.BroadcastsInDim S2x6144 (![] : Fin 0 → Fin S2x6144.rank)
  reducesTo_S2x6144_S_d0_1 : S2x6144.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024 .f32) (main_arg5 : FVec F S1024x1024 .f32) (main_arg6 : FVec F S1024x16 .f32) (main_v13 : IVec S_ 1) (main_v16 : IVec S2x6144 1) : IVec S_ 1 :=
  let main_c_5 : IVec S_ 1 := constantI S_ 1 1#1
  let main_v17 : IVec S_ 1 := (fun x v => Host.reduce IntOp.andi x v reducesTo_S2x6144_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x16 .f32 := Host.absf main_arg6
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  main_v33

def fn {F : FTy → Type} [FloatOps F] (main_arg0 : FVec F S2x16384x512 .f32) (main_arg1 : FVec F S2x16384x512 .f32) (main_arg2 : FVec F S2x16384x1024 .f32) (main_arg3 : FVec F S2x6144 .f32) (main_arg4 : FVec F S1024 .f32) (main_arg5 : FVec F S1024x1024 .f32) (main_arg6 : FVec F S1024x16 .f32) (main_arg7 : FVec F S16 .f32) : IVec S_ 1 :=
  let main_v0 : FVec F S2x16384x512 .f32 := Host.absf main_arg0
  let main_cst : FVec F S_ .f32 := constant S_ .f32 0x7F800000#32
  let main_v1 : FVec F S2x16384x512 .f32 := broadcastInDim S2x16384x512 ![] bcast_S_S2x16384x512 main_cst
  let main_v2 : IVec S2x16384x512 1 := cmpf .olt main_v0 main_v1
  let main_c : IVec S_ 1 := constantI S_ 1 1#1
  let main_v3 : IVec S_ 1 := (fun x v => Host.reduce IntOp.andi x v reducesTo_S2x16384x512_S_d0_1_2 h_S_) main_v2 main_c
  let main_v4 : FVec F S2x16384x512 .f32 := Host.absf main_arg1
  let main_cst_0 : FVec F S_ .f32 := constant S_ .f32 0x7F800000#32
  let main_v5 : FVec F S2x16384x512 .f32 := broadcastInDim S2x16384x512 ![] bcast_S_S2x16384x512 main_cst_0
  let main_v6 : IVec S2x16384x512 1 := cmpf .olt main_v4 main_v5
  let main_c_1 : IVec S_ 1 := constantI S_ 1 1#1
  let main_v7 : IVec S_ 1 := (fun x v => Host.reduce IntOp.andi x v reducesTo_S2x16384x512_S_d0_1_2 h_S_) main_v6 main_c_1
  let main_v8 : IVec S_ 1 := andi main_v3 main_v7
  let main_v9 : FVec F S2x16384x1024 .f32 := Host.absf main_arg2
  let main_cst_2 : FVec F S_ .f32 := constant S_ .f32 0x7F800000#32
  let main_v10 : FVec F S2x16384x1024 .f32 := broadcastInDim S2x16384x1024 ![] bcast_S_S2x16384x1024 main_cst_2
  let main_v11 : IVec S2x16384x1024 1 := cmpf .olt main_v9 main_v10
  let main_c_3 : IVec S_ 1 := constantI S_ 1 1#1
  let main_v12 : IVec S_ 1 := (fun x v => Host.reduce IntOp.andi x v reducesTo_S2x16384x1024_S_d0_1_2 h_S_) main_v11 main_c_3
  let main_v13 : IVec S_ 1 := andi main_v8 main_v12
  let main_v14 : FVec F S2x6144 .f32 := Host.absf main_arg3
  let main_cst_4 : FVec F S_ .f32 := constant S_ .f32 0x7F800000#32
  let main_v15 : FVec F S2x6144 .f32 := broadcastInDim S2x6144 ![] bcast_S_S2x6144 main_cst_4
  let main_v16 : IVec S2x6144 1 := cmpf .olt main_v14 main_v15
  fn_part1 (F := F) main_arg4 main_arg5 main_arg6 main_v13 main_v16
-- ==== Pre_finite_scores.lean ====
abbrev S2x16384x8x96 : Shape := ⟨4, ![2, 16384, 8, 96]⟩
abbrev S2x256x8x96 : Shape := ⟨4, ![2, 256, 8, 96]⟩
abbrev S2x256x8x64 : Shape := ⟨4, ![2, 256, 8, 64]⟩
abbrev S2x16384x8x64 : Shape := ⟨4, ![2, 16384, 8, 64]⟩
abbrev S_ : Shape := ⟨0, ![]⟩

class Facts : Prop where
  bcast_S_S2x16384x8x96 : S_.BroadcastsInDim S2x16384x8x96 (![] : Fin 0 → Fin S2x16384x8x96.rank)
  reducesTo_S2x16384x8x96_S_d0_1_2_3 : S2x16384x8x96.ReducesTo [0, 1, 2, 3] S_
  h_S_ : 0 < S_.numel
  bcast_S_S2x256x8x96 : S_.BroadcastsInDim S2x256x8x96 (![] : Fin 0 → Fin S2x256x8x96.rank)
  reducesTo_S2x256x8x96_S_d0_1_2_3 : S2x256x8x96.ReducesTo [0, 1, 2, 3] S_

variable [Facts]

def fn {F : FTy → Type} [FloatOps F] (main_arg0 : FVec F S2x16384x8x96 .f32) (main_arg1 : FVec F S2x256x8x96 .f32) (main_arg2 : FVec F S2x16384x8x96 .f32) (main_arg3 : FVec F S2x256x8x64 .f32) (main_arg4 : FVec F S2x16384x8x64 .f32) : IVec S_ 1 :=
  let main_v0 : FVec F S2x16384x8x96 .f32 := Host.absf main_arg0
  let main_cst : FVec F S_ .f32 := constant S_ .f32 0x7F800000#32
  let main_v1 : FVec F S2x16384x8x96 .f32 := broadcastInDim S2x16384x8x96 ![] bcast_S_S2x16384x8x96 main_cst
  let main_v2 : IVec S2x16384x8x96 1 := cmpf .olt main_v0 main_v1
  let main_c : IVec S_ 1 := constantI S_ 1 1#1
  let main_v3 : IVec S_ 1 := (fun x v => Host.reduce IntOp.andi x v reducesTo_S2x16384x8x96_S_d0_1_2_3 h_S_) main_v2 main_c
  let main_v4 : FVec F S2x256x8x96 .f32 := Host.absf main_arg1
  let main_cst_0 : FVec F S_ .f32 := constant S_ .f32 0x7F800000#32
  let main_v5 : FVec F S2x256x8x96 .f32 := broadcastInDim S2x256x8x96 ![] bcast_S_S2x256x8x96 main_cst_0
  let main_v6 : IVec S2x256x8x96 1 := cmpf .olt main_v4 main_v5
  let main_c_1 : IVec S_ 1 := constantI S_ 1 1#1
  let main_v7 : IVec S_ 1 := (fun x v => Host.reduce IntOp.andi x v reducesTo_S2x256x8x96_S_d0_1_2_3 h_S_) main_v6 main_c_1
  let main_v8 : IVec S_ 1 := andi main_v3 main_v7
  let main_v9 : FVec F S2x16384x8x96 .f32 := Host.absf main_arg2
  let main_cst_2 : FVec F S_ .f32 := constant S_ .f32 0x7F800000#32
  let main_v10 : FVec F S2x16384x8x96 .f32 := broadcastInDim S2x16384x8x96 ![] bcast_S_S2x16384x8x96 main_cst_2
  let main_v11 : IVec S2x16384x8x96 1 := cmpf .olt main_v9 main_v10
  let main_c_3 : IVec S_ 1 := constantI S_ 1 1#1
  let main_v12 : IVec S_ 1 := (fun x v => Host.reduce IntOp.andi x v reducesTo_S2x16384x8x96_S_d0_1_2_3 h_S_) main_v11 main_c_3
  let main_v13 : IVec S_ 1 := andi main_v8 main_v12
  main_v13
-- ==== Kernel.lean ====
abbrev S2x16384x8x96 : Shape := ⟨4, ![2, 16384, 8, 96]⟩
abbrev S2x256x8x96 : Shape := ⟨4, ![2, 256, 8, 96]⟩
abbrev S2x256x8x64 : Shape := ⟨4, ![2, 256, 8, 64]⟩
abbrev S2x16384x8x64 : Shape := ⟨4, ![2, 16384, 8, 64]⟩
abbrev S_ : Shape := ⟨0, ![]⟩
abbrev S2x16384x8x128 : Shape := ⟨4, ![2, 16384, 8, 128]⟩
abbrev S2x16384x1024 : Shape := ⟨3, ![2, 16384, 1024]⟩
abbrev S2x256x8x128 : Shape := ⟨4, ![2, 256, 8, 128]⟩
abbrev S2x256x1024 : Shape := ⟨3, ![2, 256, 1024]⟩
abbrev S2x16640x1024 : Shape := ⟨3, ![2, 16640, 1024]⟩
abbrev S2x256x512 : Shape := ⟨3, ![2, 256, 512]⟩
abbrev S2x16384x512 : Shape := ⟨3, ![2, 16384, 512]⟩
abbrev S2x16640x512 : Shape := ⟨3, ![2, 16640, 512]⟩
abbrev S2x512x16384 : Shape := ⟨3, ![2, 512, 16384]⟩
abbrev S1x512x128 : Shape := ⟨3, ![1, 512, 128]⟩
abbrev S1x16640x128 : Shape := ⟨3, ![1, 16640, 128]⟩
abbrev S1x64x512 : Shape := ⟨3, ![1, 64, 512]⟩
abbrev S65x64x256 : Shape := ⟨3, ![65, 64, 256]⟩
abbrev S128x512 : Shape := ⟨2, ![128, 512]⟩
abbrev S1x256x128 : Shape := ⟨3, ![1, 256, 128]⟩
abbrev S256x128 : Shape := ⟨2, ![256, 128]⟩
abbrev S128x256 : Shape := ⟨2, ![128, 256]⟩
abbrev S64x256 : Shape := ⟨2, ![64, 256]⟩
abbrev S1x64x256 : Shape := ⟨3, ![1, 64, 256]⟩
abbrev S512x128 : Shape := ⟨2, ![512, 128]⟩
abbrev S64x512 : Shape := ⟨2, ![64, 512]⟩
abbrev S1x512 : Shape := ⟨2, ![1, 512]⟩
abbrev S256x512 : Shape := ⟨2, ![256, 512]⟩
abbrev S512 : Shape := ⟨1, ![512]⟩

abbrev nBuf : Space → Nat
  | .hbm => 34
  | .vmem => 10
  | .smem => 0
  | _ => 0

abbrev bufTy : (tb : Table) → Fin (tcTables nBuf tb) → BufTy
  | .hbm, ⟨0, _⟩ => ⟨S2x16384x8x96, .f32⟩
  | .hbm, ⟨1, _⟩ => ⟨S2x256x8x96, .f32⟩
  | .hbm, ⟨2, _⟩ => ⟨S2x16384x8x96, .f32⟩
  | .hbm, ⟨3, _⟩ => ⟨S2x256x8x64, .f32⟩
  | .hbm, ⟨4, _⟩ => ⟨S2x16384x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x16384x8x96, .f32⟩
  | .hbm, ⟨11, _⟩ => ⟨S2x16384x8x96, .f32⟩
  | .hbm, ⟨12, _⟩ => ⟨S_, .i32⟩
  | .hbm, ⟨13, _⟩ => ⟨S_, .f32⟩
  | .hbm, ⟨14, _⟩ => ⟨S2x16384x8x128, .f32⟩
  | .hbm, ⟨15, _⟩ => ⟨S2x16384x1024, .f32⟩
  | .hbm, ⟨16, _⟩ => ⟨S2x16384x1024, .bf16⟩
  | .hbm, ⟨17, _⟩ => ⟨S_, .i32⟩
  | .hbm, ⟨18, _⟩ => ⟨S_, .f32⟩
  | .hbm, ⟨19, _⟩ => ⟨S2x256x8x128, .f32⟩
  | .hbm, ⟨20, _⟩ => ⟨S2x256x1024, .f32⟩
  | .hbm, ⟨21, _⟩ => ⟨S2x256x1024, .bf16⟩
  | .hbm, ⟨22, _⟩ => ⟨S_, .i32⟩
  | .hbm, ⟨23, _⟩ => ⟨S_, .f32⟩
  | .hbm, ⟨24, _⟩ => ⟨S2x16384x8x128, .f32⟩
  | .hbm, ⟨25, _⟩ => ⟨S2x16384x1024, .f32⟩
  | .hbm, ⟨26, _⟩ => ⟨S2x16384x1024, .bf16⟩
  | .hbm, ⟨27, _⟩ => ⟨S2x16640x1024, .bf16⟩
  | .hbm, ⟨28, _⟩ => ⟨S2x256x512, .f32⟩
  | .hbm, ⟨29, _⟩ => ⟨S2x256x512, .bf16⟩
  | .hbm, ⟨30, _⟩ => ⟨S2x16384x512, .f32⟩
  | .hbm, ⟨31, _⟩ => ⟨S2x16384x512, .bf16⟩
  | .hbm, ⟨32, _⟩ => ⟨S2x16640x512, .bf16⟩
  | .hbm, ⟨33, _⟩ => ⟨S2x512x16384, .bf16⟩
  | .local _ .vmem, ⟨0, _⟩ => ⟨S1x512x128, .bf16⟩
  | .local _ .vmem, ⟨1, _⟩ => ⟨S1x512x128, .bf16⟩
  | .local _ .vmem, ⟨2, _⟩ => ⟨S1x16640x128, .bf16⟩
  | .local _ .vmem, ⟨3, _⟩ => ⟨S1x16640x128, .bf16⟩
  | .local _ .vmem, ⟨4, _⟩ => ⟨S1x16640x128, .bf16⟩
  | .local _ .vmem, ⟨5, _⟩ => ⟨S1x16640x128, .bf16⟩
  | .local _ .vmem, ⟨6, _⟩ => ⟨S1x64x512, .bf16⟩
  | .local _ .vmem, ⟨7, _⟩ => ⟨S1x64x512, .bf16⟩
  | .local _ .vmem, ⟨8, _⟩ => ⟨S65x64x256, .bf16⟩
  | .local _ .vmem, ⟨9, _⟩ => ⟨S128x512, .bf16⟩
  | _, _ => ⟨S2x16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_call2_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x16384x8x96 : Shape := ⟨4, ![2, 16384, 8, 96]⟩
abbrev S2x256x8x96 : Shape := ⟨4, ![2, 256, 8, 96]⟩
abbrev S2x256x8x64 : Shape := ⟨4, ![2, 256, 8, 64]⟩
abbrev S2x16384x8x64 : Shape := ⟨4, ![2, 16384, 8, 64]⟩
abbrev S2x16640x8x96 : Shape := ⟨4, ![2, 16640, 8, 96]⟩
abbrev S2x16640x8x64 : Shape := ⟨4, ![2, 16640, 8, 64]⟩
abbrev S2x8x16384x16640 : Shape := ⟨4, ![2, 8, 16384, 16640]⟩
abbrev S_ : Shape := ⟨0, ![]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩
abbrev S2x512x16384 : Shape := ⟨3, ![2, 512, 16384]⟩

abbrev nBuf : Space → Nat
  | .hbm => 29
  | .vmem => 0
  | .smem => 0
  | _ => 0

abbrev bufTy : (tb : Table) → Fin (tcTables nBuf tb) → BufTy
  | .hbm, ⟨0, _⟩ => ⟨S2x16384x8x96, .f32⟩
  | .hbm, ⟨1, _⟩ => ⟨S2x256x8x96, .f32⟩
  | .hbm, ⟨2, _⟩ => ⟨S2x16384x8x96, .f32⟩
  | .hbm, ⟨3, _⟩ => ⟨S2x256x8x64, .f32⟩
  | .hbm, ⟨4, _⟩ => ⟨S2x16384x8x64, .f32⟩
  | .hbm, ⟨5, _⟩ => ⟨S2x16640x8x96, .f32⟩
  | .hbm, ⟨6, _⟩ => ⟨S2x16640x8x64, .f32⟩
  | .hbm, ⟨7, _⟩ => ⟨S2x8x16384x16640, .f32⟩
  | .hbm, ⟨8, _⟩ => ⟨S_, .f32⟩
  | .hbm, ⟨9, _⟩ => ⟨S_, .f32⟩
  | .hbm, ⟨10, _⟩ => ⟨S2x8x16384x16640, .f32⟩
  | .hbm, ⟨11, _⟩ => ⟨S2x8x16384x16640, .f32⟩
  | .hbm, ⟨12, _⟩ => ⟨S_, .f32⟩
  | .hbm, ⟨13, _⟩ => ⟨S2x8x16384, .f32⟩
  | .hbm, ⟨14, _⟩ => ⟨S_, .f32⟩
  | .hbm, ⟨15, _⟩ => ⟨S2x8x16384, .f32⟩
  | .hbm, ⟨16, _⟩ => ⟨S2x8x16384, .f32⟩
  | .hbm, ⟨17, _⟩ => ⟨S2x8x16384x1, .f32⟩
  | .hbm, ⟨18, _⟩ => ⟨S2x8x16384x16640, .f32⟩
  | .hbm, ⟨19, _⟩ => ⟨S2x8x16384x16640, .f32⟩
  | .hbm, ⟨20, _⟩ => ⟨S2x8x16384x16640, .f32⟩
  | .hbm, ⟨21, _⟩ => ⟨S_, .f32⟩
  | .hbm, ⟨22, _⟩ => ⟨S2x8x16384, .f32⟩
  | .hbm, ⟨23, _⟩ => ⟨S2x8x16384x1, .f32⟩
  | .hbm, ⟨24, _⟩ => ⟨S2x8x16384x16640, .f32⟩
  | .hbm, ⟨25, _⟩ => ⟨S2x8x16384x16640, .f32⟩
  | .hbm, ⟨26, _⟩ => ⟨S2x8x64x16384, .f32⟩
  | .hbm, ⟨27, _⟩ => ⟨S2x512x16384, .f32⟩
  | .hbm, ⟨28, _⟩ => ⟨S2x512x16384, .bf16⟩
  | _, _ => ⟨S2x16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S2x16384x512 : Shape := ⟨3, ![2, 16384, 512]⟩
abbrev S2x16384x1024 : Shape := ⟨3, ![2, 16384, 1024]⟩
abbrev S2x6144 : Shape := ⟨2, ![2, 6144]⟩
abbrev S1024 : Shape := ⟨1, ![1024]⟩
abbrev S1024x1024 : Shape := ⟨2, ![1024, 1024]⟩
abbrev S1024x16 : Shape := ⟨2, ![1024, 16]⟩
abbrev S16 : Shape := ⟨1, ![16]⟩
abbrev S1x1024 : Shape := ⟨2, ![1, 1024]⟩
abbrev S2x512x16384 : Shape := ⟨3, ![2, 512, 16384]⟩
abbrev S2x1024 : Shape := ⟨2, ![2, 1024]⟩
abbrev S2x1x1024 : Shape := ⟨3, ![2, 1, 1024]⟩
abbrev S16x1024 : Shape := ⟨2, ![16, 1024]⟩
abbrev S16x1 : Shape := ⟨2, ![16, 1]⟩
abbrev S2x16x16384 : Shape := ⟨3, ![2, 16, 16384]⟩
abbrev S1x512x512 : Shape := ⟨3, ![1, 512, 512]⟩
abbrev S1x512x1024 : Shape := ⟨3, ![1, 512, 1024]⟩
abbrev S1x1x1024 : Shape := ⟨3, ![1, 1, 1024]⟩
abbrev S1x16x512 : Shape := ⟨3, ![1, 16, 512]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S16x512 : Shape := ⟨2, ![16, 512]⟩
abbrev S1x512 : Shape := ⟨2, ![1, 512]⟩

abbrev nBuf : Space → Nat
  | .hbm => 24
  | .vmem => 22
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x1024, .f32⟩
  | .hbm, ⟨3, _⟩ => ⟨S2x6144, .f32⟩
  | .hbm, ⟨4, _⟩ => ⟨S1024, .f32⟩
  | .hbm, ⟨5, _⟩ => ⟨S1024x1024, .f32⟩
  | .hbm, ⟨6, _⟩ => ⟨S1024x16, .f32⟩
  | .hbm, ⟨7, _⟩ => ⟨S16, .f32⟩
  | .hbm, ⟨8, _⟩ => ⟨S1x1024, .f32⟩
  | .hbm, ⟨9, _⟩ => ⟨S1024x1024, .bf16⟩
  | .hbm, ⟨10, _⟩ => ⟨S2x512x16384, .f32⟩
  | .hbm, ⟨11, _⟩ => ⟨S2x512x16384, .bf16⟩
  | .hbm, ⟨12, _⟩ => ⟨S2x16384x512, .bf16⟩
  | .hbm, ⟨13, _⟩ => ⟨S2x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S16x1024, .f32⟩
  | .hbm, ⟨20, _⟩ => ⟨S16x1, .f32⟩
  | .hbm, ⟨21, _⟩ => ⟨S2x16384x1024, .f32⟩
  | .hbm, ⟨22, _⟩ => ⟨S2x16384x1024, .bf16⟩
  | .hbm, ⟨23, _⟩ => ⟨S2x16x16384, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x1024, .bf16⟩
  | .local _ .vmem, ⟨14, _⟩ => ⟨S16x1024, .f32⟩
  | .local _ .vmem, ⟨15, _⟩ => ⟨S16x1, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x16x512, .f32⟩
  | .local _ .vmem, ⟨21, _⟩ => ⟨S1x16x512, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S2x16384x512 : Shape := ⟨3, ![2, 16384, 512]⟩
abbrev S2x16384x1024 : Shape := ⟨3, ![2, 16384, 1024]⟩
abbrev S2x6144 : Shape := ⟨2, ![2, 6144]⟩
abbrev S1024 : Shape := ⟨1, ![1024]⟩
abbrev S1024x1024 : Shape := ⟨2, ![1024, 1024]⟩
abbrev S1024x16 : Shape := ⟨2, ![1024, 16]⟩
abbrev S16 : Shape := ⟨1, ![16]⟩
abbrev S2x1x6144 : Shape := ⟨3, ![2, 1, 6144]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x1024, .f32⟩
  | .hbm, ⟨3, _⟩ => ⟨S2x6144, .f32⟩
  | .hbm, ⟨4, _⟩ => ⟨S1024, .f32⟩
  | .hbm, ⟨5, _⟩ => ⟨S1024x1024, .f32⟩
  | .hbm, ⟨6, _⟩ => ⟨S1024x16, .f32⟩
  | .hbm, ⟨7, _⟩ => ⟨S16, .f32⟩
  | .hbm, ⟨8, _⟩ => ⟨S2x1x6144, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x16384x1024, .f32⟩
  | .hbm, ⟨16, _⟩ => ⟨S2x16384x1024, .f32⟩
  | .hbm, ⟨17, _⟩ => ⟨S2x16384x1024, .f32⟩
  | .hbm, ⟨18, _⟩ => ⟨S2x16384x1024, .f32⟩
  | .hbm, ⟨19, _⟩ => ⟨S2x16384x1024, .f32⟩
  | .hbm, ⟨20, _⟩ => ⟨S2x16384x1024, .f32⟩
  | .hbm, ⟨21, _⟩ => ⟨S_, .f32⟩
  | .hbm, ⟨22, _⟩ => ⟨S2x16384, .f32⟩
  | .hbm, ⟨23, _⟩ => ⟨S2x16384x1, .f32⟩
  | .hbm, ⟨24, _⟩ => ⟨S_, .f32⟩
  | .hbm, ⟨25, _⟩ => ⟨S2x16384x1, .f32⟩
  | .hbm, ⟨26, _⟩ => ⟨S2x16384x1, .f32⟩
  | .hbm, ⟨27, _⟩ => ⟨S_, .f32⟩
  | .hbm, ⟨28, _⟩ => ⟨S2x16384x1, .f32⟩
  | .hbm, ⟨29, _⟩ => ⟨S2x16384x1, .f32⟩
  | .hbm, ⟨30, _⟩ => ⟨S2x16384x1, .f32⟩
  | .hbm, ⟨31, _⟩ => ⟨S2x16384x1024, .f32⟩
  | .hbm, ⟨32, _⟩ => ⟨S2x16384x1024, .f32⟩
  | .hbm, ⟨33, _⟩ => ⟨S1x1x1024, .f32⟩
  | .hbm, ⟨34, _⟩ => ⟨S2x16384x1024, .f32⟩
  | .hbm, ⟨35, _⟩ => ⟨S2x16384x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S2x16384x1024, .bf16⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel3.lean ====
abbrev S2x16384x512 : Shape := ⟨3, ![2, 16384, 512]⟩
abbrev S2x16384x1024 : Shape := ⟨3, ![2, 16384, 1024]⟩
abbrev S2x6144 : Shape := ⟨2, ![2, 6144]⟩
abbrev S1024 : Shape := ⟨1, ![1024]⟩
abbrev S1024x1024 : Shape := ⟨2, ![1024, 1024]⟩
abbrev S1024x16 : Shape := ⟨2, ![1024, 16]⟩
abbrev S16 : Shape := ⟨1, ![16]⟩
abbrev S1x1024 : Shape := ⟨2, ![1, 1024]⟩
abbrev S2x512x16384 : Shape := ⟨3, ![2, 512, 16384]⟩
abbrev S2x1024 : Shape := ⟨2, ![2, 1024]⟩
abbrev S2x1x1024 : Shape := ⟨3, ![2, 1, 1024]⟩
abbrev S16x1024 : Shape := ⟨2, ![16, 1024]⟩
abbrev S16x1 : Shape := ⟨2, ![16, 1]⟩
abbrev S2x16x16384 : Shape := ⟨3, ![2, 16, 16384]⟩
abbrev S1x512x512 : Shape := ⟨3, ![1, 512, 512]⟩
abbrev S1x512x1024 : Shape := ⟨3, ![1, 512, 1024]⟩
abbrev S1x1x1024 : Shape := ⟨3, ![1, 1, 1024]⟩
abbrev S1x16x512 : Shape := ⟨3, ![1, 16, 512]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S16x512 : Shape := ⟨2, ![16, 512]⟩
abbrev S1x512 : Shape := ⟨2, ![1, 512]⟩

abbrev nBuf : Space → Nat
  | .hbm => 24
  | .vmem => 22
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x1024, .f32⟩
  | .hbm, ⟨3, _⟩ => ⟨S2x6144, .f32⟩
  | .hbm, ⟨4, _⟩ => ⟨S1024, .f32⟩
  | .hbm, ⟨5, _⟩ => ⟨S1024x1024, .f32⟩
  | .hbm, ⟨6, _⟩ => ⟨S1024x16, .f32⟩
  | .hbm, ⟨7, _⟩ => ⟨S16, .f32⟩
  | .hbm, ⟨8, _⟩ => ⟨S1x1024, .f32⟩
  | .hbm, ⟨9, _⟩ => ⟨S1024x1024, .bf16⟩
  | .hbm, ⟨10, _⟩ => ⟨S2x512x16384, .f32⟩
  | .hbm, ⟨11, _⟩ => ⟨S2x512x16384, .bf16⟩
  | .hbm, ⟨12, _⟩ => ⟨S2x16384x512, .bf16⟩
  | .hbm, ⟨13, _⟩ => ⟨S2x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S16x1024, .f32⟩
  | .hbm, ⟨20, _⟩ => ⟨S16x1, .f32⟩
  | .hbm, ⟨21, _⟩ => ⟨S2x16384x1024, .f32⟩
  | .hbm, ⟨22, _⟩ => ⟨S2x16384x1024, .bf16⟩
  | .hbm, ⟨23, _⟩ => ⟨S2x16x16384, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x1024, .bf16⟩
  | .local _ .vmem, ⟨14, _⟩ => ⟨S16x1024, .f32⟩
  | .local _ .vmem, ⟨15, _⟩ => ⟨S16x1, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x16x512, .f32⟩
  | .local _ .vmem, ⟨21, _⟩ => ⟨S1x16x512, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S2x16384x512 : Shape := ⟨3, ![2, 16384, 512]⟩
abbrev S2x16384x1024 : Shape := ⟨3, ![2, 16384, 1024]⟩
abbrev S2x6144 : Shape := ⟨2, ![2, 6144]⟩
abbrev S1024 : Shape := ⟨1, ![1024]⟩
abbrev S1024x1024 : Shape := ⟨2, ![1024, 1024]⟩
abbrev S1024x16 : Shape := ⟨2, ![1024, 16]⟩
abbrev S16 : Shape := ⟨1, ![16]⟩
abbrev S2x1x6144 : Shape := ⟨3, ![2, 1, 6144]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x16 : Shape := ⟨3, ![2, 16384, 16]⟩
abbrev S1x1x16 : Shape := ⟨3, ![1, 1, 16]⟩
abbrev S2x16384x4x4 : Shape := ⟨4, ![2, 16384, 4, 4]⟩
abbrev S2x16384x4x2 : Shape := ⟨4, ![2, 16384, 4, 2]⟩
abbrev S2x16384x4 : Shape := ⟨3, ![2, 16384, 4]⟩
abbrev S2x16384x1x1 : Shape := ⟨4, ![2, 16384, 1, 1]⟩
abbrev S1 : Shape := ⟨1, ![1]⟩
abbrev S1x1x1x1 : Shape := ⟨4, ![1, 1, 1, 1]⟩
abbrev S2x16384x1x4 : Shape := ⟨4, ![2, 16384, 1, 4]⟩
abbrev S2x16384x2 : Shape := ⟨3, ![2, 16384, 2]⟩
abbrev S2x16384x2x1 : Shape := ⟨4, ![2, 16384, 2, 1]⟩
abbrev S1x1x1x4 : Shape := ⟨4, ![1, 1, 1, 4]⟩
abbrev S2x16384x2x4 : Shape := ⟨4, ![2, 16384, 2, 4]⟩
abbrev S2x16384x7 : Shape := ⟨3, ![2, 16384, 7]⟩
abbrev S2x16x16384 : Shape := ⟨3, ![2, 16, 16384]⟩

abbrev nBuf : Space → Nat
  | .hbm => 139
  | .vmem => 0
  | .smem => 0
  | _ => 0

abbrev hbmTy0_0 (i : Nat) : BufTy := match i % 128 with
  | 0 => ⟨S2x16384x512, .f32⟩
  | 1 => ⟨S2x16384x512, .f32⟩
  | 2 => ⟨S2x16384x1024, .f32⟩
  | 3 => ⟨S2x6144, .f32⟩
  | 4 => ⟨S1024, .f32⟩
  | 5 => ⟨S1024x1024, .f32⟩
  | 6 => ⟨S1024x16, .f32⟩
  | 7 => ⟨S16, .f32⟩
  | 8 => ⟨S2x1x6144, .f32⟩
  | 9 => ⟨S2x1x1024, .f32⟩
  | 10 => ⟨S2x1x1024, .f32⟩
  | 11 => ⟨S2x1x1024, .f32⟩
  | 12 => ⟨S2x1x1024, .f32⟩
  | 13 => ⟨S2x1x1024, .f32⟩
  | 14 => ⟨S2x1x1024, .f32⟩
  | 15 => ⟨S2x16384x1024, .f32⟩
  | 16 => ⟨S2x16384x1024, .f32⟩
  | 17 => ⟨S2x16384x1024, .f32⟩
  | 18 => ⟨S2x16384x1024, .f32⟩
  | 19 => ⟨S2x16384x1024, .f32⟩
  | 20 => ⟨S2x16384x1024, .f32⟩
  | 21 => ⟨S_, .f32⟩
  | 22 => ⟨S2x16384, .f32⟩
  | 23 => ⟨S2x16384x1, .f32⟩
  | 24 => ⟨S_, .f32⟩
  | 25 => ⟨S2x16384x1, .f32⟩
  | 26 => ⟨S2x16384x1, .f32⟩
  | 27 => ⟨S_, .f32⟩
  | 28 => ⟨S2x16384x1, .f32⟩
  | 29 => ⟨S2x16384x1, .f32⟩
  | 30 => ⟨S2x16384x1, .f32⟩
  | 31 => ⟨S2x16384x1024, .f32⟩
  | 32 => ⟨S2x16384x1024, .f32⟩
  | 33 => ⟨S1x1x1024, .f32⟩
  | 34 => ⟨S2x16384x1024, .f32⟩
  | 35 => ⟨S2x16384x1024, .f32⟩
  | 36 => ⟨S_, .f32⟩
  | 37 => ⟨S2x1x1024, .f32⟩
  | 38 => ⟨S2x1x1024, .f32⟩
  | 39 => ⟨S2x16384x1024, .f32⟩
  | 40 => ⟨S2x16384x1024, .f32⟩
  | 41 => ⟨S2x16384x1024, .f32⟩
  | 42 => ⟨S2x16384x1024, .f32⟩
  | 43 => ⟨S2x16384x16, .f32⟩
  | 44 => ⟨S2x16384x16, .f32⟩
  | 45 => ⟨S2x16384x16, .f32⟩
  | 46 => ⟨S_, .f32⟩
  | 47 => ⟨S2x16384x16, .f32⟩
  | 48 => ⟨S2x16384x16, .f32⟩
  | 49 => ⟨S_, .f32⟩
  | 50 => ⟨S2x16384x16, .f32⟩
  | 51 => ⟨S2x16384x16, .f32⟩
  | 52 => ⟨S1x1x16, .f32⟩
  | 53 => ⟨S2x16384x16, .f32⟩
  | 54 => ⟨S2x16384x16, .f32⟩
  | 55 => ⟨S2x16384x4x4, .f32⟩
  | 56 => ⟨S2x16384x4x2, .f32⟩
  | 57 => ⟨S2x16384x4x2, .i32⟩
  | 58 => ⟨S_, .f32⟩
  | 59 => ⟨S2x16384x4, .f32⟩
  | 60 => ⟨S2x16384x1, .f32⟩
  | 61 => ⟨S2x16384x1, .i32⟩
  | 62 => ⟨S2x16384, .i32⟩
  | 63 => ⟨S2x16384x1x1, .i32⟩
  | 64 => ⟨S_, .i32⟩
  | 65 => ⟨S2x16384x1x1, .i32⟩
  | 66 => ⟨S2x16384x1x1, .i1⟩
  | 67 => ⟨S_, .i32⟩
  | 68 => ⟨S2x16384x1x1, .i32⟩
  | 69 => ⟨S2x16384x1x1, .i32⟩
  | 70 => ⟨S2x16384x1x1, .i32⟩
  | 71 => ⟨S1, .i32⟩
  | 72 => ⟨S_, .i32⟩
  | 73 => ⟨S2x16384x1x1, .i32⟩
  | 74 => ⟨S2x16384x1x1, .i1⟩
  | 75 => ⟨S1x1x1x1, .i32⟩
  | 76 => ⟨S2x16384x1x1, .i32⟩
  | 77 => ⟨S2x16384x1x1, .i1⟩
  | 78 => ⟨S2x16384x1x1, .i1⟩
  | 79 => ⟨S_, .i1⟩
  | 80 => ⟨S2x16384x1, .i1⟩
  | 81 => ⟨S2x16384x1x4, .f32⟩
  | 82 => ⟨S2x16384x1x4, .i1⟩
  | 83 => ⟨S_, .f32⟩
  | 84 => ⟨S2x16384x1x4, .f32⟩
  | 85 => ⟨S2x16384x1x4, .f32⟩
  | 86 => ⟨S2x16384x4, .f32⟩
  | 87 => ⟨S2x16384x2, .f32⟩
  | 88 => ⟨S2x16384x2, .i32⟩
  | 89 => ⟨S2x16384x1, .i32⟩
  | 90 => ⟨S_, .i32⟩
  | 91 => ⟨S2x16384x1, .i32⟩
  | 92 => ⟨S2x16384x1, .i32⟩
  | 93 => ⟨S2x16384x2, .i32⟩
  | 94 => ⟨S2x16384x2, .i32⟩
  | 95 => ⟨S_, .i32⟩
  | 96 => ⟨S2x16384x2, .i32⟩
  | 97 => ⟨S2x16384x2, .i1⟩
  | 98 => ⟨S_, .i32⟩
  | 99 => ⟨S2x16384x2, .i32⟩
  | 100 => ⟨S2x16384x2, .i32⟩
  | 101 => ⟨S2x16384x2, .i32⟩
  | 102 => ⟨S2x16384x2x1, .i32⟩
  | 103 => ⟨S1, .i32⟩
  | 104 => ⟨S_, .i32⟩
  | 105 => ⟨S2x16384x2x1, .i32⟩
  | 106 => ⟨S2x16384x2x1, .i1⟩
  | 107 => ⟨S1x1x1x1, .i32⟩
  | 108 => ⟨S2x16384x2x1, .i32⟩
  | 109 => ⟨S2x16384x2x1, .i1⟩
  | 110 => ⟨S2x16384x2x1, .i1⟩
  | 111 => ⟨S_, .i1⟩
  | 112 => ⟨S2x16384x2, .i1⟩
  | 113 => ⟨S2x16384x2, .f32⟩
  | 114 => ⟨S_, .f32⟩
  | 115 => ⟨S2x16384x2, .f32⟩
  | 116 => ⟨S2x16384x2, .f32⟩
  | 117 => ⟨S_, .f32⟩
  | 118 => ⟨S2x16384, .f32⟩
  | 119 => ⟨S2x16384x1, .f32⟩
  | 120 => ⟨S2x16384x2, .f32⟩
  | 121 => ⟨S2x16384x2, .f32⟩
  | 122 => ⟨S2x16384x2x1, .i32⟩
  | 123 => ⟨S1x1x1x4, .i32⟩
  | 124 => ⟨S2x16384x2x4, .i32⟩
  | 125 => ⟨S2x16384x2x4, .i32⟩
  | 126 => ⟨S2x16384x2x4, .i1⟩
  | 127 => ⟨S2x16384x2x4, .f32⟩
  | _ => ⟨S2x16384x512, .f32⟩

abbrev hbmTy0_1 (i : Nat) : BufTy := match i % 128 with
  | 0 => ⟨S2x16384x2x1, .f32⟩
  | 1 => ⟨S2x16384x2x4, .f32⟩
  | 2 => ⟨S2x16384x2x4, .f32⟩
  | 3 => ⟨S_, .f32⟩
  | 4 => ⟨S2x16384x4, .f32⟩
  | 5 => ⟨S2x16384x1, .i32⟩
  | 6 => ⟨S2x16384x1, .f32⟩
  | 7 => ⟨S_, .f32⟩
  | 8 => ⟨S2x16384x7, .f32⟩
  | 9 => ⟨S2x16384x16, .f32⟩
  | 10 => ⟨S2x16x16384, .f32⟩
  | _ => ⟨S2x16384x512, .f32⟩

abbrev hbmTy (i : Nat) : BufTy := match i / 128 with
  | 0 => hbmTy0_0 i
  | 1 => hbmTy0_1 i
  | _ => ⟨S2x16384x512, .f32⟩

abbrev bufTy : (tb : Table) → Fin (tcTables nBuf tb) → BufTy
  | .hbm, ⟨i, _⟩ => hbmTy i
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_values : Ref sig .tc := ⟨.hbm, 56, rfl⟩
abbrev main_indices : Ref sig .tc := ⟨.hbm, 57, rfl⟩
abbrev main_cst_5 : Ref sig .tc := ⟨.hbm, 58, rfl⟩
abbrev main_v42 : Ref sig .tc := ⟨.hbm, 59, rfl⟩
abbrev main_values_6 : Ref sig .tc := ⟨.hbm, 60, rfl⟩
abbrev main_indices_7 : Ref sig .tc := ⟨.hbm, 61, rfl⟩
abbrev main_v43 : Ref sig .tc := ⟨.hbm, 62, rfl⟩
abbrev main_v44 : Ref sig .tc := ⟨.hbm, 63, rfl⟩
abbrev main_call0_c : Ref sig .tc := ⟨.hbm, 64, rfl⟩
abbrev main_call0_v0 : Ref sig .tc := ⟨.hbm, 65, rfl⟩
abbrev main_call0_v1 : Ref sig .tc := ⟨.hbm, 66, rfl⟩
abbrev main_call0_c_0 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_c_1 : Ref sig .tc := ⟨.hbm, 71, rfl⟩
abbrev main_call0_c_2 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_v8 : Ref sig .tc := ⟨.hbm, 76, rfl⟩
abbrev main_call0_v9 : Ref sig .tc := ⟨.hbm, 77, rfl⟩
abbrev main_call0_v10 : Ref sig .tc := ⟨.hbm, 78, rfl⟩
abbrev main_call0_c_3 : Ref sig .tc := ⟨.hbm, 79, rfl⟩
abbrev main_call0_v11 : Ref sig .tc := ⟨.hbm, 80, rfl⟩
abbrev main_call0_v12 : Ref sig .tc := ⟨.hbm, 81, rfl⟩
abbrev main_call0_v13 : Ref sig .tc := ⟨.hbm, 82, rfl⟩
abbrev main_call0_cst : Ref sig .tc := ⟨.hbm, 83, rfl⟩
abbrev main_call0_v14 : Ref sig .tc := ⟨.hbm, 84, rfl⟩
abbrev main_v45 : Ref sig .tc := ⟨.hbm, 85, rfl⟩
abbrev main_v46 : Ref sig .tc := ⟨.hbm, 86, rfl⟩
abbrev main_values_8 : Ref sig .tc := ⟨.hbm, 87, rfl⟩
abbrev main_indices_9 : Ref sig .tc := ⟨.hbm, 88, rfl⟩
abbrev main_v47 : Ref sig .tc := ⟨.hbm, 89, rfl⟩
abbrev main_c : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_call1_c : Ref sig .tc := ⟨.hbm, 95, rfl⟩
abbrev main_call1_v0 : Ref sig .tc := ⟨.hbm, 96, rfl⟩
abbrev main_call1_v1 : Ref sig .tc := ⟨.hbm, 97, rfl⟩
abbrev main_call1_c_0 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_c_1 : Ref sig .tc := ⟨.hbm, 103, rfl⟩
abbrev main_call1_c_2 : Ref sig .tc := ⟨.hbm, 104, rfl⟩
abbrev main_call1_v6 : Ref sig .tc := ⟨.hbm, 105, rfl⟩
abbrev main_call1_v7 : Ref sig .tc := ⟨.hbm, 106, rfl⟩
abbrev main_call1_v8 : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_call1_c_3 : Ref sig .tc := ⟨.hbm, 111, rfl⟩
abbrev main_call1_v12 : Ref sig .tc := ⟨.hbm, 112, rfl⟩
abbrev main_call1_v13 : Ref sig .tc := ⟨.hbm, 113, rfl⟩
abbrev main_call1_cst : Ref sig .tc := ⟨.hbm, 114, rfl⟩
abbrev main_call1_v14 : Ref sig .tc := ⟨.hbm, 115, rfl⟩
abbrev main_v52 : Ref sig .tc := ⟨.hbm, 116, rfl⟩
abbrev main_cst_10 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_cst_11 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_cst_12 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x6144 : Shape := ⟨2, ![2, 6144]⟩
abbrev S1024 : Shape := ⟨1, ![1024]⟩
abbrev S1024x928 : Shape := ⟨2, ![1024, 928]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S512x1024 : Shape := ⟨2, ![512, 1024]⟩
abbrev S256x256 : Shape := ⟨2, ![256, 256]⟩
abbrev S16384x128 : Shape := ⟨2, ![16384, 128]⟩
abbrev S1x1024x928 : Shape := ⟨3, ![1, 1024, 928]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x96 : Shape := ⟨2, ![1, 96]⟩
abbrev S1x1024 : Shape := ⟨2, ![1, 1024]⟩
abbrev S1x512x1024 : Shape := ⟨3, ![1, 512, 1024]⟩
abbrev S1024x32 : Shape := ⟨2, ![1024, 32]⟩
abbrev S_ : Shape := ⟨0, ![]⟩
abbrev S1024x128 : Shape := ⟨2, ![1024, 128]⟩
abbrev S128x1 : Shape := ⟨2, ![128, 1]⟩
abbrev S1024x384 : Shape := ⟨2, ![1024, 384]⟩
abbrev S1024x512 : Shape := ⟨2, ![1024, 512]⟩
abbrev S1024x1152 : Shape := ⟨2, ![1024, 1152]⟩
abbrev S256x8x96 : Shape := ⟨3, ![256, 8, 96]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S8x128 : Shape := ⟨2, ![8, 128]⟩
abbrev S2x1024 : Shape := ⟨2, ![2, 1024]⟩
abbrev S2x1x1024 : Shape := ⟨3, ![2, 1, 1024]⟩
abbrev S2x16384x512 : Shape := ⟨3, ![2, 16384, 512]⟩
abbrev S2x2x16384x512 : Shape := ⟨4, ![2, 2, 16384, 512]⟩
abbrev S1x1x1024 : Shape := ⟨3, ![1, 1, 1024]⟩
abbrev S512x128 : Shape := ⟨2, ![512, 128]⟩
abbrev S1x512x512 : Shape := ⟨3, ![1, 512, 512]⟩
abbrev S1x2x512x512 : Shape := ⟨4, ![1, 2, 512, 512]⟩
abbrev S512 : Shape := ⟨1, ![512]⟩
abbrev S512x1 : Shape := ⟨2, ![512, 1]⟩
abbrev S512x1152 : Shape := ⟨2, ![512, 1152]⟩
abbrev S512x256 : Shape := ⟨2, ![512, 256]⟩
abbrev S512x512 : Shape := ⟨2, ![512, 512]⟩
abbrev S1x1x512x512 : Shape := ⟨4, ![1, 1, 512, 512]⟩

abbrev nBuf : Space → Nat
  | .hbm => 155
  | .vmem => 32
  | .smem => 0
  | _ => 0

abbrev hbmTy0_0 (i : Nat) : BufTy := match i % 128 with
  | 0 => ⟨S2x16384x1024, .f32⟩
  | 1 => ⟨S2x6144, .f32⟩
  | 2 => ⟨S1024, .f32⟩
  | 3 => ⟨S1024x928, .f32⟩
  | 4 => ⟨S256, .f32⟩
  | 5 => ⟨S256x768, .f32⟩
  | 6 => ⟨S128, .f32⟩
  | 7 => ⟨S128x1024, .f32⟩
  | 8 => ⟨S96, .f32⟩
  | 9 => ⟨S96, .f32⟩
  | 10 => ⟨S512x1024, .f32⟩
  | 11 => ⟨S256x256, .f32⟩
  | 12 => ⟨S16384x128, .f32⟩
  | 13 => ⟨S16384x128, .f32⟩
  | 14 => ⟨S128, .i32⟩
  | 15 => ⟨S128, .i1⟩
  | 16 => ⟨S128, .i1⟩
  | 17 => ⟨S128, .i1⟩
  | 18 => ⟨S128, .i1⟩
  | 19 => ⟨S128, .i1⟩
  | 20 => ⟨S128, .i1⟩
  | 21 => ⟨S1x1024x928, .f32⟩
  | 22 => ⟨S1x256, .f32⟩
  | 23 => ⟨S1x256x768, .f32⟩
  | 24 => ⟨S1x128, .f32⟩
  | 25 => ⟨S1x128x1024, .f32⟩
  | 26 => ⟨S1x96, .f32⟩
  | 27 => ⟨S1x96, .f32⟩
  | 28 => ⟨S1x1024, .f32⟩
  | 29 => ⟨S512x1024, .bf16⟩
  | 30 => ⟨S1x512x1024, .bf16⟩
  | 31 => ⟨S1024x928, .f32⟩
  | 32 => ⟨S1024x32, .f32⟩
  | 33 => ⟨S_, .i32⟩
  | 34 => ⟨S_, .f32⟩
  | 35 => ⟨S1024x128, .f32⟩
  | 36 => ⟨S_, .i32⟩
  | 37 => ⟨S128, .i32⟩
  | 38 => ⟨S128, .i32⟩
  | 39 => ⟨S128, .i32⟩
  | 40 => ⟨S128x1, .i32⟩
  | 41 => ⟨S1024x128, .f32⟩
  | 42 => ⟨S_, .f32⟩
  | 43 => ⟨S_, .f32⟩
  | 44 => ⟨S1024x128, .i1⟩
  | 45 => ⟨S1024x128, .f32⟩
  | 46 => ⟨S1024x128, .f32⟩
  | 47 => ⟨S1024x384, .f32⟩
  | 48 => ⟨S1024x512, .f32⟩
  | 49 => ⟨S1024x1152, .f32⟩
  | 50 => ⟨S256x768, .f32⟩
  | 51 => ⟨S256x8x96, .f32⟩
  | 52 => ⟨S_, .i32⟩
  | 53 => ⟨S_, .f32⟩
  | 54 => ⟨S256x8x128, .f32⟩
  | 55 => ⟨S256x1024, .f32⟩
  | 56 => ⟨S256x8x128, .f32⟩
  | 57 => ⟨S_, .i32⟩
  | 58 => ⟨S128, .i32⟩
  | 59 => ⟨S128, .i32⟩
  | 60 => ⟨S128, .i32⟩
  | 61 => ⟨S128x1, .i32⟩
  | 62 => ⟨S256x8x128, .f32⟩
  | 63 => ⟨S_, .f32⟩
  | 64 => ⟨S_, .f32⟩
  | 65 => ⟨S256x8x128, .i1⟩
  | 66 => ⟨S256x8x128, .f32⟩
  | 67 => ⟨S256x8x128, .f32⟩
  | 68 => ⟨S256x1024, .f32⟩
  | 69 => ⟨S128x1024, .f32⟩
  | 70 => ⟨S128x8x128, .f32⟩
  | 71 => ⟨S128x8x64, .f32⟩
  | 72 => ⟨S_, .i32⟩
  | 73 => ⟨S_, .f32⟩
  | 74 => ⟨S128x8x128, .f32⟩
  | 75 => ⟨S128x1024, .f32⟩
  | 76 => ⟨S128x8x64, .f32⟩
  | 77 => ⟨S128x512, .f32⟩
  | 78 => ⟨S96, .f32⟩
  | 79 => ⟨S_, .i32⟩
  | 80 => ⟨S_, .f32⟩
  | 81 => ⟨S128, .f32⟩
  | 82 => ⟨S_, .i32⟩
  | 83 => ⟨S128, .i32⟩
  | 84 => ⟨S128, .i32⟩
  | 85 => ⟨S128, .i32⟩
  | 86 => ⟨S128x1, .i32⟩
  | 87 => ⟨S128, .f32⟩
  | 88 => ⟨S_, .f32⟩
  | 89 => ⟨S_, .f32⟩
  | 90 => ⟨S128, .f32⟩
  | 91 => ⟨S128, .f32⟩
  | 92 => ⟨S1x128, .f32⟩
  | 93 => ⟨S8x128, .f32⟩
  | 94 => ⟨S1024, .f32⟩
  | 95 => ⟨S_, .f32⟩
  | 96 => ⟨S1024, .f32⟩
  | 97 => ⟨S1024, .f32⟩
  | 98 => ⟨S1x1024, .f32⟩
  | 99 => ⟨S1x128, .f32⟩
  | 100 => ⟨S8x128, .f32⟩
  | 101 => ⟨S1024, .f32⟩
  | 102 => ⟨S_, .f32⟩
  | 103 => ⟨S1024, .f32⟩
  | 104 => ⟨S1024, .f32⟩
  | 105 => ⟨S1x1024, .f32⟩
  | 106 => ⟨S96, .f32⟩
  | 107 => ⟨S_, .i32⟩
  | 108 => ⟨S_, .f32⟩
  | 109 => ⟨S128, .f32⟩
  | 110 => ⟨S_, .i32⟩
  | 111 => ⟨S128, .i32⟩
  | 112 => ⟨S128, .i32⟩
  | 113 => ⟨S128, .i32⟩
  | 114 => ⟨S128x1, .i32⟩
  | 115 => ⟨S128, .f32⟩
  | 116 => ⟨S_, .f32⟩
  | 117 => ⟨S_, .f32⟩
  | 118 => ⟨S128, .f32⟩
  | 119 => ⟨S128, .f32⟩
  | 120 => ⟨S1x128, .f32⟩
  | 121 => ⟨S8x128, .f32⟩
  | 122 => ⟨S1024, .f32⟩
  | 123 => ⟨S_, .f32⟩
  | 124 => ⟨S1024, .f32⟩
  | 125 => ⟨S1024, .f32⟩
  | 126 => ⟨S1x1024, .f32⟩
  | 127 => ⟨S1x128, .f32⟩
  | _ => ⟨S2x16384x1024, .f32⟩

abbrev hbmTy0_1 (i : Nat) : BufTy := match i % 128 with
  | 0 => ⟨S8x128, .f32⟩
  | 1 => ⟨S1024, .f32⟩
  | 2 => ⟨S_, .f32⟩
  | 3 => ⟨S1024, .f32⟩
  | 4 => ⟨S1024, .f32⟩
  | 5 => ⟨S1x1024, .f32⟩
  | 6 => ⟨S1024, .f32⟩
  | 7 => ⟨S1x1024, .f32⟩
  | 8 => ⟨S1024x1152, .bf16⟩
  | 9 => ⟨S256, .f32⟩
  | 10 => ⟨S1x256, .f32⟩
  | 11 => ⟨S256x1024, .bf16⟩
  | 12 => ⟨S256x1024, .bf16⟩
  | 13 => ⟨S128, .f32⟩
  | 14 => ⟨S1x128, .f32⟩
  | 15 => ⟨S128x1024, .bf16⟩
  | 16 => ⟨S128x512, .bf16⟩
  | 17 => ⟨S512x1024, .bf16⟩
  | 18 => ⟨S256x256, .bf16⟩
  | 19 => ⟨S2x1024, .f32⟩
  | 20 => ⟨S2x1x1024, .f32⟩
  | 21 => ⟨S2x1024, .f32⟩
  | 22 => ⟨S2x1x1024, .f32⟩
  | 23 => ⟨S2x16384x1024, .bf16⟩
  | 24 => ⟨S2x16384x1024, .bf16⟩
  | 25 => ⟨S2x16384x512, .bf16⟩
  | 26 => ⟨S2x2x16384x512, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1152, .bf16⟩
  | .local _ .vmem, ⟨8, _⟩ => ⟨S1x256, .f32⟩
  | .local _ .vmem, ⟨9, _⟩ => ⟨S256x1024, .bf16⟩
  | .local _ .vmem, ⟨10, _⟩ => ⟨S256x1024, .bf16⟩
  | .local _ .vmem, ⟨11, _⟩ => ⟨S1x128, .f32⟩
  | .local _ .vmem, ⟨12, _⟩ => ⟨S128x1024, .bf16⟩
  | .local _ .vmem, ⟨13, _⟩ => ⟨S128x512, .bf16⟩
  | .local _ .vmem, ⟨14, _⟩ => ⟨S256x256, .bf16⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S512x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x512x512, .bf16⟩
  | .local _ .vmem, ⟨29, _⟩ => ⟨S1x512x512, .bf16⟩
  | .local _ .vmem, ⟨30, _⟩ => ⟨S1x2x512x512, .bf16⟩
  | .local _ .vmem, ⟨31, _⟩ => ⟨S1x2x512x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_c_1 : Ref sig .tc := ⟨.hbm, 16, rfl⟩
abbrev main_c_2 : Ref sig .tc := ⟨.hbm, 17, rfl⟩
abbrev main_c_3 : Ref sig .tc := ⟨.hbm, 18, rfl⟩
abbrev main_c_4 : Ref sig .tc := ⟨.hbm, 19, rfl⟩
abbrev main_c_5 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_6 : Ref sig .tc := ⟨.hbm, 33, rfl⟩
abbrev main_call0_v0 : Ref sig .tc := ⟨.hbm, 34, rfl⟩
abbrev main_v12 : Ref sig .tc := ⟨.hbm, 35, rfl⟩
abbrev main_c_7 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_8 : Ref sig .tc := ⟨.hbm, 52, rfl⟩
abbrev main_call2_v0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_9 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_11 : Ref sig .tc := ⟨.hbm, 72, rfl⟩
abbrev main_call4_v0 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_c_12 : Ref sig .tc := ⟨.hbm, 79, rfl⟩
abbrev main_call5_v0 : Ref sig .tc := ⟨.hbm, 80, rfl⟩
abbrev main_v42 : Ref sig .tc := ⟨.hbm, 81, rfl⟩
abbrev main_c_13 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_14 : Ref sig .tc := ⟨.hbm, 88, rfl⟩
abbrev main_call6_v0 : Ref sig .tc := ⟨.hbm, 89, rfl⟩
abbrev main_call6_v1 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_15 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_16 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_17 : Ref sig .tc := ⟨.hbm, 107, rfl⟩
abbrev main_call7_v0 : Ref sig .tc := ⟨.hbm, 108, rfl⟩
abbrev main_v62 : Ref sig .tc := ⟨.hbm, 109, rfl⟩
abbrev main_c_18 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_19 : Ref sig .tc := ⟨.hbm, 116, rfl⟩
abbrev main_call8_v0 : Ref sig .tc := ⟨.hbm, 117, rfl⟩
abbrev main_call8_v1 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_20 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_21 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98_0 : Ref sig .tc := ⟨.hbm, 151, rfl⟩
abbrev main_v98_1 : Ref sig .tc := ⟨.hbm, 152, rfl⟩
abbrev main_v98_2 : Ref sig .tc := ⟨.hbm, 153, rfl⟩
abbrev main_v98_3 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S512x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x2x512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference4Ideal.lean ====
abbrev S2x16384x1024 : Shape := ⟨3, ![2, 16384, 1024]⟩
abbrev S2x6144 : Shape := ⟨2, ![2, 6144]⟩
abbrev S1024 : Shape := ⟨1, ![1024]⟩
abbrev S1024x928 : Shape := ⟨2, ![1024, 928]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S512x1024 : Shape := ⟨2, ![512, 1024]⟩
abbrev S256x256 : Shape := ⟨2, ![256, 256]⟩
abbrev S16384x128 : Shape := ⟨2, ![16384, 128]⟩
abbrev S2x1x6144 : Shape := ⟨3, ![2, 1, 6144]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x928 : Shape := ⟨3, ![2, 16384, 928]⟩
abbrev S2x16384x256 : Shape := ⟨3, ![2, 16384, 256]⟩
abbrev S2x16384x128 : Shape := ⟨3, ![2, 16384, 128]⟩
abbrev S2x16384x32 : Shape := ⟨3, ![2, 16384, 32]⟩
abbrev S2x16384x512 : Shape := ⟨3, ![2, 16384, 512]⟩
abbrev S1x1x128 : Shape := ⟨3, ![1, 1, 128]⟩
abbrev S2x16384x8x128 : Shape := ⟨4, ![2, 16384, 8, 128]⟩
abbrev S2x16384x8x64 : Shape := ⟨4, ![2, 16384, 8, 64]⟩
abbrev S2x16384x2x512 : Shape := ⟨4, ![2, 16384, 2, 512]⟩
abbrev S2x2x16384x512 : Shape := ⟨4, ![2, 2, 16384, 512]⟩

abbrev nBuf : Space → Nat
  | .hbm => 74
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x6144, .f32⟩
  | .hbm, ⟨2, _⟩ => ⟨S1024, .f32⟩
  | .hbm, ⟨3, _⟩ => ⟨S1024x928, .f32⟩
  | .hbm, ⟨4, _⟩ => ⟨S256, .f32⟩
  | .hbm, ⟨5, _⟩ => ⟨S256x768, .f32⟩
  | .hbm, ⟨6, _⟩ => ⟨S128, .f32⟩
  | .hbm, ⟨7, _⟩ => ⟨S128x1024, .f32⟩
  | .hbm, ⟨8, _⟩ => ⟨S96, .f32⟩
  | .hbm, ⟨9, _⟩ => ⟨S96, .f32⟩
  | .hbm, ⟨10, _⟩ => ⟨S512x1024, .f32⟩
  | .hbm, ⟨11, _⟩ => ⟨S256x256, .f32⟩
  | .hbm, ⟨12, _⟩ => ⟨S16384x128, .f32⟩
  | .hbm, ⟨13, _⟩ => ⟨S16384x128, .f32⟩
  | .hbm, ⟨14, _⟩ => ⟨S2x1x6144, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x16384x1024, .f32⟩
  | .hbm, ⟨22, _⟩ => ⟨S_, .f32⟩
  | .hbm, ⟨23, _⟩ => ⟨S2x16384, .f32⟩
  | .hbm, ⟨24, _⟩ => ⟨S2x16384x1, .f32⟩
  | .hbm, ⟨25, _⟩ => ⟨S_, .f32⟩
  | .hbm, ⟨26, _⟩ => ⟨S2x16384x1, .f32⟩
  | .hbm, ⟨27, _⟩ => ⟨S2x16384x1, .f32⟩
  | .hbm, ⟨28, _⟩ => ⟨S_, .f32⟩
  | .hbm, ⟨29, _⟩ => ⟨S2x16384x1, .f32⟩
  | .hbm, ⟨30, _⟩ => ⟨S2x16384x1, .f32⟩
  | .hbm, ⟨31, _⟩ => ⟨S2x16384x1, .f32⟩
  | .hbm, ⟨32, _⟩ => ⟨S2x16384x1024, .f32⟩
  | .hbm, ⟨33, _⟩ => ⟨S2x16384x1024, .f32⟩
  | .hbm, ⟨34, _⟩ => ⟨S1x1x1024, .f32⟩
  | .hbm, ⟨35, _⟩ => ⟨S2x16384x1024, .f32⟩
  | .hbm, ⟨36, _⟩ => ⟨S2x16384x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S2x16384x1024, .f32⟩
  | .hbm, ⟨44, _⟩ => ⟨S2x16384x928, .f32⟩
  | .hbm, ⟨45, _⟩ => ⟨S2x16384x256, .f32⟩
  | .hbm, ⟨46, _⟩ => ⟨S2x16384x128, .f32⟩
  | .hbm, ⟨47, _⟩ => ⟨S2x16384x32, .f32⟩
  | .hbm, ⟨48, _⟩ => ⟨S2x16384x512, .f32⟩
  | .hbm, ⟨49, _⟩ => ⟨S2x16384x128, .f32⟩
  | .hbm, ⟨50, _⟩ => ⟨S_, .f32⟩
  | .hbm, ⟨51, _⟩ => ⟨S2x16384, .f32⟩
  | .hbm, ⟨52, _⟩ => ⟨S2x16384x1, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S_, .f32⟩
  | .hbm, ⟨57, _⟩ => ⟨S2x16384x1, .f32⟩
  | .hbm, ⟨58, _⟩ => ⟨S2x16384x1, .f32⟩
  | .hbm, ⟨59, _⟩ => ⟨S2x16384x1, .f32⟩
  | .hbm, ⟨60, _⟩ => ⟨S2x16384x128, .f32⟩
  | .hbm, ⟨61, _⟩ => ⟨S2x16384x128, .f32⟩
  | .hbm, ⟨62, _⟩ => ⟨S1x1x128, .f32⟩
  | .hbm, ⟨63, _⟩ => ⟨S2x16384x128, .f32⟩
  | .hbm, ⟨64, _⟩ => ⟨S2x16384x128, .f32⟩
  | .hbm, ⟨65, _⟩ => ⟨S2x16384x1024, .f32⟩
  | .hbm, ⟨66, _⟩ => ⟨S2x16384x8x128, .f32⟩
  | .hbm, ⟨67, _⟩ => ⟨S2x16384x8x64, .f32⟩
  | .hbm, ⟨68, _⟩ => ⟨S2x16384x512, .f32⟩
  | .hbm, ⟨69, _⟩ => ⟨S2x16384x1024, .f32⟩
  | .hbm, ⟨70, _⟩ => ⟨S2x16384x2x512, .f32⟩
  | .hbm, ⟨71, _⟩ => ⟨S2x2x16384x512, .f32⟩
  | .hbm, ⟨72, _⟩ => ⟨S2x16384x512, .bf16⟩
  | .hbm, ⟨73, _⟩ => ⟨S2x2x16384x512, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Kernel5.lean ====
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S4x1x6144, .f32⟩
  | .hbm, ⟨9, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S4x6144x8, .f32⟩
  | .hbm, ⟨18, _⟩ => ⟨S4x8x6144, .f32⟩
  | .hbm, ⟨19, _⟩ => ⟨S4x1x6144, .f32⟩
  | .hbm, ⟨20, _⟩ => ⟨S4x8x6144, .f32⟩
  | .hbm, ⟨21, _⟩ => ⟨S4x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Proof.Block.lean ====
module

public import proofs.«01_k».proof.Proof.Gen.KernelIdeal.Value

/-! What one grid point's block computes, as a recursion over the 65 key tiles: the weighted values and the weights'
    sum, tile after tile, and their quotient. -/

@[expose] public section

set_option maxRecDepth 16384

noncomputable section

namespace Cert.KernelIdeal.Block

open Idealize.ShloMosaic Idealize.ShloMosaic.TcCoe Idealize.ShloMosaic.Tactic
open Cert.KernelIdeal.Gen

variable {F : FTy → Type} [FloatOps F]

/-- The weights of one key tile: two to the power of key times query. -/
def weight (q : Vec F S128x512 .bf16) (k : Vec F S1x256x128 .bf16) : FVec F S256x512 .f32 :=
  exp2 (matmul dot_S256x128_S128x512_S256x512_1_0_0_1_n_n none
    (shapeCast S256x128 k shapeCasts_S1x256x128_S256x128 : FVec F S256x128 .bf16) q
    (constant S256x512 .f32 0x00000000#32 : FVec F S256x512 .f32) : FVec F S256x512 .f32)

/-- The sum of the weights over the first `n` key tiles. -/
def den (q : Vec F S128x512 .bf16) (K : (n : ℕ) → n < 65 → Vec F S1x256x128 .bf16) :
    (n : ℕ) → n ≤ 65 → FVec F S1x512 .f32
  | 0, _ => broadcast S1x512 (Scalar.ofBits .f32 0x00000000#32 : F .f32)
  | n + 1, h => addf (den q K n (Nat.le_of_succ_le h))
      (shapeCast S1x512 (multiReduction .add [0] S512 (weight q (K n h)) 0x00000000#32 reduces_S256x512_S512 (.inl rfl) rfl
        : FVec F S512 .f32) shapeCasts_S512_S1x512)

/-- The weighted sum of the values over the first `n` key tiles. -/
def acc (q : Vec F S128x512 .bf16) (K : (n : ℕ) → n < 65 → Vec F S1x256x128 .bf16)
    (W : (n : ℕ) → n < 65 → Vec F S1x64x256 .bf16) : (n : ℕ) → n ≤ 65 → FVec F S64x512 .f32
  | 0, _ => broadcast S64x512 (Scalar.ofBits .f32 0x00000000#32 : F .f32)
  | n + 1, h => addf (acc q K W n (Nat.le_of_succ_le h))
      (matmul dot_S64x256_S256x512_S64x512_1_0_0_1_n_n none
        (shapeCast S64x256 (W n h) shapeCasts_S1x64x256_S64x256 : FVec F S64x256 .bf16)
        (truncf .bf16 (weight q (K n h)) bitsLt_bf16_f32 : FVec F S256x512 .bf16)
        (constant S64x512 .f32 0x00000000#32 : FVec F S64x512 .f32))

/-- The block: the weighted sum over the sum of the weights. -/
def quot (a : FVec F S64x512 .f32) (d : FVec F S1x512 .f32) : FVec F S1x64x512 .bf16 :=
  shapeCast S1x64x512 (truncf .bf16 (divf a (broadcastTo S64x512 d broadcasts_S1x512_S64x512 : FVec F S64x512 .f32)
    : FVec F S64x512 .f32) bitsLt_bf16_f32 : FVec F S64x512 .bf16) shapeCasts_S64x512_S1x64x512

theorem key_inb (n : ℕ) (h : n < 65) (a : Fin 3) : (![0, 256 * n, 0] : Fin 3 → ℕ) a + S1x256x128.size a ≤ S1x16640x128.size a := by
  fin_cases a <;> simp <;> omega

theorem val_inb (n : ℕ) (h : n < 65) (a : Fin 3) : (![n, 0, 0] : Fin 3 → ℕ) a + S1x64x256.size a ≤ S65x64x256.size a := by
  fin_cases a <;> simp <;> omega

/-- Tile `n` of the keys. -/
def keyTile (x : Vec F S1x16640x128 .bf16) (n : ℕ) (h : n < 65) : Vec F S1x256x128 .bf16 :=
  View.ld x (Rect.unit (s := S1x16640x128) ![0, 256 * n, 0] S1x256x128.size (key_inb n h))

/-- Tile `n` of the transposed values kept in the scratch. -/
def valTile (x : Vec F S65x64x256 .bf16) (n : ℕ) (h : n < 65) : Vec F S1x64x256 .bf16 :=
  View.ld x (Rect.unit (s := S65x64x256) ![n, 0, 0] S1x64x256.size (val_inb n h))

variable (c : Dev nD) (i : grid0.Coords) (arg3 : Memref sig .tc .vmem S1x512x128 .bf16) (harg3 : arg3.IsWhole)
  (arg4 : Memref sig .tc .vmem S1x16640x128 .bf16) (harg4 : arg4.IsWhole)
  (arg5 : Memref sig .tc .vmem S1x16640x128 .bf16) (harg5 : arg5.IsWhole)
  (arg6 : Memref sig .tc .vmem S1x64x512 .bf16) (harg6 : arg6.IsWhole)
  (arg7 : Memref sig .tc .vmem S65x64x256 .bf16) (harg7 : arg7.IsWhole)
  (arg8 : Memref sig .tc .vmem S128x512 .bf16) (harg8 : arg8.IsWhole)
  (x0 : Vec F S1x512x128 .bf16) (x1 x2 : Vec F S1x16640x128 .bf16) (xs0 : Vec F S65x64x256 .bf16)

/-- The last payload of a point that finds the transposed values in the scratch. -/
theorem payB_eq :
    k0_pay1 (kernelRun0_B.sl.r_107 c arg3 harg3 arg4 harg4 arg8 x0 x1)
      (kernelRun0_B.sl.r_108 c arg3 harg3 arg4 harg4 arg7 harg7 arg8 x0 x1 xs0)
      (kernelRun0_B.sl.r_109 c arg3 harg3 arg4 harg4 arg8 x0 x1)
      (View.readAt (Elt F) arg7.view (Rect.unit (s := S65x64x256) ![64, 0, 0] S1x64x256.size inb_S65x64x256_S1x64x256_64_0_0).toLoadRect (harg7.unread xs0))
    = quot (acc (kernelRun0_B.sl.v9 c arg3 harg3 arg8 x0)
        (fun n h => View.readAt (Elt F) arg4.view (Rect.unit (s := S1x16640x128) ![0, 256 * n, 0] S1x256x128.size (key_inb n h)).toLoadRect (harg4.unread x1))
        (fun n h => View.readAt (Elt F) arg7.view (Rect.unit (s := S65x64x256) ![n, 0, 0] S1x64x256.size (val_inb n h)).toLoadRect (harg7.unread xs0))
        65 le_rfl)
      (den (kernelRun0_B.sl.v9 c arg3 harg3 arg8 x0)
        (fun n h => View.readAt (Elt F) arg4.view (Rect.unit (s := S1x16640x128) ![0, 256 * n, 0] S1x256x128.size (key_inb n h)).toLoadRect (harg4.unread x1))
        65 le_rfl) := by
  rfl

/-- The transposed query block a point computes with, in the case that fills the scratch … -/
theorem queryA_eq : kernelRun0_A.sl.v9 c arg3 harg3 arg8 x0 = k0_pay80 x0 := by
  unfold kernelRun0_A.sl.v9 kernelRun0_A.sl.HS1_1
  rw [View.readCov_cons_toLoadRect, View.readAt_eq_ld, harg3.read_unread]
  exact congrArg k0_pay80 (View.ld_unit_zero (by funext a; fin_cases a <;> rfl) _ x0)

/-- … and in the other. -/
theorem queryB_eq : kernelRun0_B.sl.v9 c arg3 harg3 arg8 x0 = k0_pay80 x0 := queryA_eq c arg3 harg3 arg8 x0

theorem keys_eq : (fun (n : ℕ) (h : n < 65) => View.readAt (Elt F) arg4.view
      (Rect.unit (s := S1x16640x128) ![0, 256 * n, 0] S1x256x128.size (key_inb n h)).toLoadRect (harg4.unread x1)) = keyTile x1 := by
  funext n h
  rw [View.readAt_eq_ld, harg4.read_unread]; rfl

theorem vals_eq : (fun (n : ℕ) (h : n < 65) => View.readAt (Elt F) arg7.view
      (Rect.unit (s := S65x64x256) ![n, 0, 0] S1x64x256.size (val_inb n h)).toLoadRect (harg7.unread xs0)) = valTile xs0 := by
  funext n h
  rw [View.readAt_eq_ld, harg7.read_unread]; rfl

/-- What a point that finds the transposed values `xs0` in the scratch leaves in its output block. -/
theorem out_B (hc0 : ¬ cond0_0 i) :
    out0_B_3 c i arg3 harg3 arg4 harg4 arg5 harg5 arg6 harg6 arg7 harg7 arg8 harg8 hc0 x0 x1 x2 xs0
      = quot (acc (k0_pay80 x0) (keyTile x1) (valTile xs0) 65 le_rfl) (den (k0_pay80 x0) (keyTile x1) 65 le_rfl) := by
  unfold out0_B_3
  rw [View.read_writes_junk_eq_canon]
  unfold kernelRun0_B
  dsimp only
  rw [View.canon_unit_zero (by funext a; fin_cases a <;> rfl)]
  refine (payB_eq c arg3 harg3 arg4 harg4 arg7 harg7 arg8 x0 x1 xs0).trans ?_
  rw [queryB_eq, keys_eq, vals_eq]

/-- The last payload of a point that fills the scratch first. -/
theorem payA_eq :
    k0_pay1 (kernelRun0_A.sl.r_107 c arg3 harg3 arg4 harg4 arg8 x0 x1)
      (kernelRun0_A.sl.r_108 c i arg3 harg3 arg4 harg4 arg5 harg5 arg7 arg8 x0 x1 x2)
      (kernelRun0_A.sl.r_109 c arg3 harg3 arg4 harg4 arg8 x0 x1)
      (arg7.view.readCov (kernelRun0_A.sl.HS0_65 c i arg5 harg5 x2) (Rect.unit (s := S65x64x256) ![64, 0, 0] S1x64x256.size inb_S65x64x256_S1x64x256_64_0_0).toLoadRect)
    = quot (acc (kernelRun0_A.sl.v9 c arg3 harg3 arg8 x0)
        (fun n h => View.readAt (Elt F) arg4.view (Rect.unit (s := S1x16640x128) ![0, 256 * n, 0] S1x256x128.size (key_inb n h)).toLoadRect (harg4.unread x1))
        (fun n h => arg7.view.readCov (kernelRun0_A.sl.HS0_65 c i arg5 harg5 x2) (Rect.unit (s := S65x64x256) ![n, 0, 0] S1x64x256.size (val_inb n h)).toLoadRect)
        65 le_rfl)
      (den (kernelRun0_A.sl.v9 c arg3 harg3 arg8 x0)
        (fun n h => View.readAt (Elt F) arg4.view (Rect.unit (s := S1x16640x128) ![0, 256 * n, 0] S1x256x128.size (key_inb n h)).toLoadRect (harg4.unread x1))
        65 le_rfl) := by
  rfl

/-- The scratch a point that fills it leaves. -/
theorem scr_A (hc0 : cond0_0 i) :
    sout0_A_0 c i arg3 harg3 arg4 harg4 arg5 harg5 arg6 harg6 arg7 harg7 arg8 harg8 hc0 x0 x1 x2
      = View.canon (kernelRun0_A.sl.HS0_65 c i arg5 harg5 x2) := by
  unfold sout0_A_0
  rw [View.read_writes_junk_eq_canon]
  rfl

/-- What a point that fills the scratch leaves in its output block: the same function of the scratch it leaves. -/
theorem out_A (hc0 : cond0_0 i) :
    out0_A_3 c i arg3 harg3 arg4 harg4 arg5 harg5 arg6 harg6 arg7 harg7 arg8 harg8 hc0 x0 x1 x2
      = quot (acc (k0_pay80 x0) (keyTile x1)
          (valTile (sout0_A_0 c i arg3 harg3 arg4 harg4 arg5 harg5 arg6 harg6 arg7 harg7 arg8 harg8 hc0 x0 x1 x2)) 65 le_rfl)
        (den (k0_pay80 x0) (keyTile x1) 65 le_rfl) := by
  rw [scr_A]
  unfold out0_A_3
  rw [View.read_writes_junk_eq_canon]
  unfold kernelRun0_A
  dsimp only
  rw [View.canon_unit_zero (by funext a; fin_cases a <;> rfl)]
  refine (payA_eq c i arg3 harg3 arg4 harg4 arg5 harg5 arg7 arg8 x0 x1 x2).trans ?_
  have hv : (fun (n : ℕ) (h : n < 65) => arg7.view.readCov (kernelRun0_A.sl.HS0_65 c i arg5 harg5 x2)
      (Rect.unit (s := S65x64x256) ![n, 0, 0] S1x64x256.size (val_inb n h)).toLoadRect)
      = valTile (View.canon (kernelRun0_A.sl.HS0_65 c i arg5 harg5 x2)) := by
    funext n h
    rw [View.readCov_eq_canon']; rfl
  rw [queryA_eq, keys_eq, hv]

end Cert.KernelIdeal.Block
end
-- ==== Proof.Scr.lean ====
module

public import proofs.«01_k».proof.Proof.Block
public import Idealize.ShloMosaic.Lib.Pointwise
public import Idealize.ShloMosaic.Lib.Pipeline.ValueKit

/-! What the scratch holds: tile `t` of it is tile `t` of the values, the half of the columns the head takes,
    transposed. -/

@[expose] public section

set_option maxRecDepth 16384

noncomputable section

namespace Cert.KernelIdeal.Block

open Idealize.ShloMosaic Idealize.ShloMosaic.TcCoe Idealize.ShloMosaic.Tactic
open Cert.KernelIdeal.Gen

variable {F : FTy → Type} [FloatOps F]

/-- The stores of the first `n` tiles, the last first. -/
def stores (b : BitVec 1) (x : (n : ℕ) → n < 65 → Vec F S1x256x128 .bf16) :
    (n : ℕ) → n ≤ 65 → List (View.Piece (Elt F) S65x64x256 .bf16)
  | 0, _ => []
  | n + 1, h => ⟨Rect.unit (s := S65x64x256) ![n, 0, 0] S1x64x256.size (val_inb n h), k0_pay79 b (x n h)⟩ ::
      stores b x n (Nat.le_of_succ_le h)

/-- A tile's payload at an index. -/
theorem pay_at (b : BitVec 1) (x : Vec F S1x256x128 .bf16) (y : S1x64x256.Idx) :
    k0_pay79 b x y = if b = 1#1 then x (ix3 0 (y 2) ⟨64 + (y 1).val, by have h : (y 1).val < 64 := (y 1).isLt; omega⟩)
      else x (ix3 0 (y 2) ⟨(y 1).val, by have h : (y 1).val < 64 := (y 1).isLt; omega⟩) := by
  idx_vars y
  pointwise [k0_pay79]
  rfl

/-- The scratch after the stores of `n` tiles, at a place of a tile below `n`. -/
theorem stores_at (b : BitVec 1) (x : (n : ℕ) → n < 65 → Vec F S1x256x128 .bf16) (t : Fin 65) (d : Fin 64) (k : Fin 256) :
    ∀ (n : ℕ) (h : n ≤ 65), t.val < n → View.canon (stores b x n h) (ix3 t d k) = k0_pay79 b (x t.val t.isLt) (ix3 0 d k)
  | n + 1, h, ht => by
    rw [stores]
    rcases Nat.lt_succ_iff_lt_or_eq.mp ht with h1 | h1
    · rw [View.canon_cons_of_not_mem]
      · exact stores_at b x t d k n _ h1
      · rw [Rect.mem_set_unit]
        intro hc
        have := (hc 0).1
        simp at this
        omega
    · subst h1
      have e : (ix3 t d k : S65x64x256.Idx)
          = (Rect.unit (s := S65x64x256) ![t.val, 0, 0] S1x64x256.size (val_inb t.val h)).emb (ix3 0 d k) := by
        funext a
        apply Fin.ext
        show _ = ((Rect.unit (s := S65x64x256) ![t.val, 0, 0] S1x64x256.size (val_inb t.val h)).emb (ix3 0 d k) a : ℕ)
        rw [ValueKit.rect_emb_unit_val]
        fin_cases a <;> simp [ix3]
      rw [e]
      exact View.canon_cons_emb _ _ _ _

/-- The parity bit of the head. -/
theorem parity : ∀ i : grid0.Coords, kernelRun0_A.sl.v808 i = if (i 1).val % 2 = 1 then 1#1 else 0#1 := by
  intro i
  have h : ∀ j : Fin 8, ∀ i : grid0.Coords, (i 1).val = j.val → kernelRun0_A.sl.v808 i = if j.val % 2 = 1 then 1#1 else 0#1 := by
    intro j i hj
    sl_unfold_words
    rw [hj]
    clear hj
    revert j
    decide
  exact h ⟨(i 1).val, (i 1).isLt⟩ i rfl

variable (c : Dev nD) (i : grid0.Coords) (arg3 : Memref sig .tc .vmem S1x512x128 .bf16) (harg3 : arg3.IsWhole)
  (arg4 : Memref sig .tc .vmem S1x16640x128 .bf16) (harg4 : arg4.IsWhole)
  (arg5 : Memref sig .tc .vmem S1x16640x128 .bf16) (harg5 : arg5.IsWhole)
  (arg6 : Memref sig .tc .vmem S1x64x512 .bf16) (harg6 : arg6.IsWhole)
  (arg7 : Memref sig .tc .vmem S65x64x256 .bf16) (harg7 : arg7.IsWhole)
  (arg8 : Memref sig .tc .vmem S128x512 .bf16) (harg8 : arg8.IsWhole)
  (x0 : Vec F S1x512x128 .bf16) (x1 x2 : Vec F S1x16640x128 .bf16) (xs0 : Vec F S65x64x256 .bf16)

/-- The point's stores into the scratch are these. -/
theorem stores_eq : kernelRun0_A.sl.HS0_65 c i arg5 harg5 x2
    = stores (kernelRun0_A.sl.v808 i) (fun n h => View.readAt (Elt F) arg5.view
      (Rect.unit (s := S1x16640x128) ![0, 256 * n, 0] S1x256x128.size (key_inb n h)).toLoadRect (harg5.unread x2)) 65 le_rfl := by
  rfl

/-- The scratch a point that fills it leaves, at an index. -/
theorem scr_at (hc0 : cond0_0 i) (t : Fin 65) (d : Fin 64) (k : Fin 256) :
    sout0_A_0 c i arg3 harg3 arg4 harg4 arg5 harg5 arg6 harg6 arg7 harg7 arg8 harg8 hc0 x0 x1 x2 (ix3 t d k)
      = x2 (ix3 0 ⟨256 * t.val + k.val, by omega⟩ ⟨64 * ((i 1).val % 2) + d.val, by omega⟩) := by
  rw [scr_A, stores_eq, keys_eq, stores_at _ _ _ _ _ _ _ t.isLt, pay_at, parity]
  unfold keyTile
  by_cases hp : (i 1).val % 2 = 1
  · rw [if_pos hp, if_pos rfl]
    pointwise
    simp [hp]
  · have hp' : (i 1).val % 2 = 0 := by omega
    rw [if_neg hp, if_neg (by decide)]
    pointwise
    simp [hp']

/-- A point that finds the values in the scratch leaves it. -/
theorem scr_B (hc0 : ¬ cond0_0 i) :
    sout0_B_0 c i arg3 harg3 arg4 harg4 arg5 harg5 arg6 harg6 arg7 harg7 arg8 harg8 hc0 x0 x1 x2 xs0 = xs0 := by
  rfl

end Cert.KernelIdeal.Block
-- ==== Proof.Softmax.lean ====
/-
  The extended-real equations behind the attention: no program is mentioned here.

  * `sum_mul_coe`: a finite real factor `≥ 0` goes into a finite sum of extended reals, infinite terms included.
  * `quotient_eq_softmax`: a sum weighted by `e^(s k)` and divided once by the sum of the weights is the sum weighted by
    the softmax of `s`, whatever real number the softmax subtracts from its exponents.
  * `exp2_scaled`: `2^(x / (√96 · ln 2)) = e^(x / √96)`.
  * `fold_max_coe`: the maximum of real numbers, begun at `-∞`, is a real number.
-/
module

public import Idealize.ShloMosaic.PureOps.Ideal
public import Mathlib.Analysis.SpecialFunctions.Pow.Real
public import Mathlib.Data.EReal.Inv

@[expose] public section

noncomputable section

namespace Cert.Softmax

open Idealize.ShloMosaic

/-- A real factor that is not negative goes into a finite sum of extended reals. -/
theorem sum_mul_coe {ι : Type*} (t : Finset ι) (f : ι → EReal) {r : ℝ} (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, ← ih]
    exact EReal.right_distrib_of_nonneg_of_ne_top (by exact_mod_cast hr) (EReal.coe_ne_top r) _ _

/-- A finite sum of real numbers, read as an extended real. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, ← ih, EReal.coe_add]

/-- The sum of `v k · e^(s k)` divided by the sum of the `e^(s k)` is the sum of `v k` times the softmax of `s`, the
    exponents of which are taken relative to an arbitrary real number `M`. -/
theorem quotient_eq_softmax {K : Type*} [Fintype K] [Nonempty K] (s : K → ℝ) (M : ℝ) (v : K → EReal) :
    Ideal.div (∑ k, v k * ((Real.exp (s k) : ℝ) : EReal)) (∑ k, ((Real.exp (s k) : ℝ) : EReal))
      = ∑ k, v k * Ideal.div (Ideal.exp ((s k : EReal) - (M : EReal))) (∑ j, Ideal.exp ((s j : EReal) - (M : EReal))) := by
  have hpos : ∀ c : ℝ, 0 < ∑ k, Real.exp (s k - c) := fun c =>
    Finset.sum_pos (fun k _ => Real.exp_pos _) Finset.univ_nonempty
  have h0 : 0 < ∑ k, Real.exp (s k) := Finset.sum_pos (fun k _ => Real.exp_pos _) Finset.univ_nonempty
  have hM : ∑ k, Real.exp (s k - M) = (∑ k, Real.exp (s k)) / Real.exp M := by
    rw [Finset.sum_div]; exact Finset.sum_congr rfl fun k _ => Real.exp_sub _ _
  simp only [← EReal.coe_sub, Ideal.exp_coe]
  rw [← coe_sum, ← coe_sum, Ideal.div_coe h0.ne', sum_mul_coe _ _ (one_div_pos.2 h0).le]
  refine Finset.sum_congr rfl fun k _ => ?_
  rw [Ideal.div_coe (hpos M).ne', mul_assoc, ← EReal.coe_mul, ← EReal.coe_mul, hM, Real.exp_sub]
  have hM0 : Real.exp M ≠ 0 := (Real.exp_pos M).ne'
  congr 2
  field_simp

/-- `2^(x / (√96 · ln 2))` is `e^(x / √96)`. -/
theorem exp2_scaled (x : ℝ) :
    Ideal.exp2 ((x * (1 / (Real.sqrt 96 * Real.log 2)) : ℝ) : EReal) = ((Real.exp (x * (1 / Real.sqrt 96)) : ℝ) : EReal) := by
  rw [Ideal.exp2_coe]
  have h2 : Real.log 2 ≠ 0 := (Real.log_pos one_lt_two).ne'
  have h96 : Real.sqrt 96 ≠ 0 := (Real.sqrt_pos.2 (by norm_num)).ne'
  congr 1
  rw [Real.rpow_eq_pow, Real.rpow_def_of_pos two_pos]
  congr 1
  field_simp

/-- The maximum of finitely many real numbers, begun at `-∞`, is a real number. -/
theorem fold_max_coe {K : Type*} [Fintype K] [Nonempty K] (s : K → ℝ) :
    ∃ M : ℝ, Finset.univ.fold max (⊥ : EReal) (fun k => (s k : EReal)) = (M : EReal) := by
  refine ⟨Finset.univ.sup' Finset.univ_nonempty s, ?_⟩
  apply le_antisymm
  · rw [Finset.fold_max_le]
    exact ⟨bot_le, fun k hk => by exact_mod_cast Finset.le_sup' s hk⟩
  · obtain ⟨k, hk, he⟩ := Finset.exists_mem_eq_sup' Finset.univ_nonempty s
    rw [he, Finset.le_fold_max]
    exact Or.inr ⟨k, hk, le_refl _⟩

/-- The number 96, read from its pattern. -/
theorem bits_96 : Ideal.ofBits FTy.f32 1119879168#32 = ((96 : ℝ) : EReal) := by
  simp [Ideal.ofBits, Ideal.ieee, -EReal.coe_mul]; norm_num

/-- The number 2, read from its pattern. -/
theorem bits_2 : Ideal.ofBits FTy.f32 1073741824#32 = ((2 : ℝ) : EReal) := by
  simp [Ideal.ofBits, Ideal.ieee, -EReal.coe_mul]; norm_num

/-- Minus infinity, read from its pattern. -/
theorem bits_bot : Ideal.ofBits FTy.f32 4286578688#32 = (⊥ : EReal) := by
  simp [Ideal.ofBits, Ideal.ieee]

end Cert.Softmax

end
-- ==== Proof.Fold.lean ====
module

public import proofs.«01_k».proof.Proof.Block
public import proofs.«01_k».proof.Proof.Softmax
public import Idealize.ShloMosaic.Lib.Pointwise

/-! The block at an index over the extended reals: a quotient of two sums over the keys. -/

@[expose] public section

set_option maxRecDepth 16384

noncomputable section

namespace Cert.KernelIdeal.Block

open Idealize.ShloMosaic Idealize.ShloMosaic.TcCoe Idealize.ShloMosaic.Tactic
open Cert.KernelIdeal.Gen

variable (q : Vec Ideal S1x512x128 .bf16) (x : Vec Ideal S1x16640x128 .bf16) (xs : Vec Ideal S65x64x256 .bf16)

/-- The kernel's weight of key `r` for query `j` of the block. -/
def wt (r : Fin 16640) (j : Fin 512) : EReal :=
  Ideal.exp2 (∑ e : Fin 128, x (ix3 0 r e) * q (ix3 0 j e))

theorem weight_at (n : ℕ) (h : n < 65) (k : Fin 256) (j : Fin 512) :
    weight (k0_pay80 q) (keyTile x n h) (ix2 k j) = wt q x ⟨256 * n + k.val, by omega⟩ j := by
  unfold keyTile wt
  pointwise [weight, k0_pay80]
  rfl

theorem den_at (j : Fin 512) : ∀ (n : ℕ) (h : n ≤ 65),
    den (k0_pay80 q) (keyTile x) n h (ix2 0 j)
      = ∑ t : Fin n, ∑ k : Fin 256, wt q x ⟨256 * t.val + k.val, by omega⟩ j
  | 0, _ => by pointwise [den]; exact (Finset.sum_empty).symm
  | n + 1, h => by
    rw [Fin.sum_univ_castSucc]
    have ih := den_at j n (Nat.le_of_succ_le h)
    rw [den]
    pointwise
    simp only [weight_at, ih]
    rfl

theorem acc_at (d : Fin 64) (j : Fin 512) : ∀ (n : ℕ) (h : n ≤ 65),
    acc (k0_pay80 q) (keyTile x) (valTile xs) n h (ix2 d j)
      = ∑ t : Fin n, ∑ k : Fin 256, xs (ix3 ⟨t.val, by omega⟩ d k) * wt q x ⟨256 * t.val + k.val, by omega⟩ j
  | 0, _ => by pointwise [acc]; exact (Finset.sum_empty).symm
  | n + 1, h => by
    rw [Fin.sum_univ_castSucc]
    have ih := acc_at d j n (Nat.le_of_succ_le h)
    rw [acc]
    pointwise [valTile]
    simp only [weight_at, ih]
    rfl

/-- The block at an index. -/
theorem quot_at (a : FVec Ideal S64x512 .f32) (b : FVec Ideal S1x512 .f32) (d : Fin 64) (j : Fin 512) :
    quot a b (ix3 0 d j) = Ideal.div (a (ix2 d j)) (b (ix2 0 j)) := by
  pointwise [quot]

end Cert.KernelIdeal.Block
-- ==== Proof.Entry.lean ====
module

public import proofs.«01_k».proof.Proof.Gen.KernelIdeal.Value
public import proofs.«01_k».proof.Proof.Softmax
public import Idealize.ShloMosaic.Lib.Pointwise
public import Idealize.ShloMosaic.Lib.Pipeline.ValueKit
public import Idealize.ShloMosaic.Lib.StableHlo.ReadAt

/-! What the arrays the kernel reads hold, at an index, as functions of the arguments. -/

@[expose] public section

set_option maxRecDepth 16384

noncomputable section

namespace Cert.KernelIdeal.Entry

open Idealize.ShloMosaic Idealize.ShloMosaic.TcCoe Idealize.ShloMosaic.Tactic
open Cert.KernelIdeal.Gen

variable (m : (ℓ : Loc nD τ sig) → Buf (Elt Ideal) ℓ) (c : Dev nD)

/-- The grid coordinates of a point. -/
theorem coords_eq (t : Fin cfg0.N) : ((grid0.coords t 0).val = t.val / 256 ∧ (grid0.coords t 1).val = t.val / 32 % 8)
    ∧ (grid0.coords t 2).val = t.val % 32 :=
  (by decide +kernel : ∀ t : Fin grid0.N, ((grid0.coords t 0).val = t.val / 256 ∧ (grid0.coords t 1).val = t.val / 32 % 8)
    ∧ (grid0.coords t 2).val = t.val % 32) t

/-- The array indices of the windows' blocks, over the point's coordinates. -/
theorem idx0 (t : Fin cfg0.N) : win0_0.index t = ![t.val / 256, t.val % 32, t.val / 32 % 8] :=
  (by decide +kernel : ∀ t : Fin grid0.N, win0_0.index t = ![t.val / 256, t.val % 32, t.val / 32 % 8]) t

theorem idx1 (t : Fin cfg0.N) : win0_1.index t = ![t.val / 256, 0, t.val / 32 % 8] :=
  (by decide +kernel : ∀ t : Fin grid0.N, win0_1.index t = ![t.val / 256, 0, t.val / 32 % 8]) t

theorem idx2 (t : Fin cfg0.N) : win0_2.index t = ![t.val / 256, 0, t.val / 32 % 8 / 2] :=
  (by decide +kernel : ∀ t : Fin grid0.N, win0_2.index t = ![t.val / 256, 0, t.val / 32 % 8 / 2]) t

/-- A point's block of the queries. -/
theorem qblk_at (X : Buf (Elt Ideal) (c.tc.loc main_v7 : Loc nD τ sig)) (t : Fin cfg0.N) (j : Fin 512) (e : Fin 128) :
    View.read (Elt Ideal) ((cfg0.win 0).blk t).view X (ix3 0 j e : S1x512x128.Idx) = X (ix3 ⟨t.val / 256, by have := lt_of_lt_of_eq t.isLt N_0; omega⟩
      ⟨512 * (t.val % 32) + j.val, by omega⟩ ⟨128 * (t.val / 32 % 8) + e.val, by omega⟩) := by
  blk_ext [idx0 t]

/-- A point's block of the keys. -/
theorem kblk_at (X : Buf (Elt Ideal) (c.tc.loc main_v14 : Loc nD τ sig)) (t : Fin cfg0.N) (j : Fin 16640) (e : Fin 128) :
    View.read (Elt Ideal) ((cfg0.win 1).blk t).view X (ix3 0 j e : S1x16640x128.Idx) = X (ix3 ⟨t.val / 256, by have := lt_of_lt_of_eq t.isLt N_0; omega⟩
      j ⟨128 * (t.val / 32 % 8) + e.val, by omega⟩) := by
  blk_ext [idx1 t]

/-- A point's block of the values. -/
theorem vblk_at (X : Buf (Elt Ideal) (c.tc.loc main_v19 : Loc nD τ sig)) (t : Fin cfg0.N) (j : Fin 16640) (e : Fin 128) :
    View.read (Elt Ideal) ((cfg0.win 2).blk t).view X (ix3 0 j e : S1x16640x128.Idx) = X (ix3 ⟨t.val / 256, by have := lt_of_lt_of_eq t.isLt N_0; omega⟩
      j ⟨128 * (t.val / 32 % 8 / 2) + e.val, by omega⟩) := by
  blk_ext [idx2 t]

/-- The padding's value. -/
theorem pad_zero : (FloatOps.sitofp FTy.f32 0#32 : Ideal .f32) = (0 : EReal) := by
  show (((0#32 : BitVec 32).toInt : ℝ) : EReal) = 0
  simp

/-- The host's scale: one over the queries' divisor. -/
theorem divisor : Ideal.sqrt (Ideal.ofBits FTy.f32 1119879168#32) * Ideal.log (Ideal.ofBits FTy.f32 1073741824#32)
    = ((Real.sqrt 96 * Real.log 2 : ℝ) : EReal) := by
  rw [Cert.Softmax.bits_96, Cert.Softmax.bits_2, Ideal.sqrt_coe, Ideal.log_coe, if_neg (by norm_num), if_neg (by norm_num), ← EReal.coe_mul]

/-- The queries' array, at head `h`: the scaled queries, padded with zeros. -/
theorem queries_at (b : Fin 2) (i : Fin 16384) (h : Fin 8) (e : Fin 128) :
    V m c main_v7 (ix3 b i ⟨128 * h.val + e.val, by omega⟩)
      = if he : e.val < 96 then Ideal.div (m (c.tc.loc main_arg0) (ix4 b i h ⟨e.val, he⟩)) ((Real.sqrt 96 * Real.log 2 : ℝ) : EReal) else (0 : EReal) := by
  have e1 : (128 * h.val + e.val) / 128 = h.val := by omega
  have e2 : (128 * h.val + e.val) % 128 = e.val := by omega
  unfold V
  after_reads_at
  simp only [e1, e2, divisor]
  by_cases he : e.val < 96
  · simp only [dif_pos he, he, h.isLt, and_self, dite_true]
  · simp only [dif_neg he, he, and_false, dite_false, pad_zero]

/-- The keys' array, at head `h`: the conditioning's keys first, padded with zeros. -/
theorem keys_at (b : Fin 2) (i : Fin 16640) (h : Fin 8) (e : Fin 128) :
    V m c main_v14 (ix3 b i ⟨128 * h.val + e.val, by omega⟩)
      = if he : e.val < 96 then (if hi : i.val < 256 then m (c.tc.loc main_arg1) (ix4 b ⟨i.val, hi⟩ h ⟨e.val, he⟩)
          else m (c.tc.loc main_arg2) (ix4 b ⟨i.val - 256, by omega⟩ h ⟨e.val, he⟩)) else (0 : EReal) := by
  have e1 : (128 * h.val + e.val) / 128 = h.val := by omega
  have e2 : (128 * h.val + e.val) % 128 = e.val := by omega
  unfold V
  after_reads_at
  simp only [e1, e2]
  by_cases he : e.val < 96
  · simp only [dif_pos he, he, h.isLt, and_self, dite_true]
  · simp only [dif_neg he, he, and_false, dite_false, pad_zero, dite_eq_ite, ite_self]

/-- The values' array, at head `h`: the conditioning's values first. -/
theorem values_at (b : Fin 2) (i : Fin 16640) (h : Fin 8) (e : Fin 64) :
    V m c main_v19 (ix3 b i ⟨64 * h.val + e.val, by omega⟩)
      = if hi : i.val < 256 then m (c.tc.loc main_arg3) (ix4 b ⟨i.val, hi⟩ h e)
          else m (c.tc.loc main_arg4) (ix4 b ⟨i.val - 256, by omega⟩ h e) := by
  have e1 : (64 * h.val + e.val) / 64 = h.val := by omega
  have e2 : (64 * h.val + e.val) % 64 = e.val := by omega
  unfold V
  after_reads_at
  simp only [e1, e2]

end Cert.KernelIdeal.Entry
-- ==== Proof.Point.lean ====
module

public import proofs.«01_k».proof.Proof.Scr
public import proofs.«01_k».proof.Proof.Fold
public import proofs.«01_k».proof.Proof.Entry

/-! What each grid point leaves: the values of its head in the scratch, and its block of the result. -/

@[expose] public section

set_option maxRecDepth 16384

noncomputable section

namespace Cert.KernelIdeal.Point

open Idealize.ShloMosaic Idealize.ShloMosaic.TcCoe Idealize.ShloMosaic.Tactic
open Cert.KernelIdeal.Gen

variable (m : (ℓ : Loc nD τ sig) → Buf (Elt Ideal) ℓ) (c : Dev nD)

/-- A point that fills the scratch, whatever its blocks: the values of its head, transposed. -/
theorem fill (t : Fin cfg0.N) (hc : cond0_0 (grid0.coords t)) (x0 : Vec Ideal S1x512x128 .bf16) (x1 x2 : Vec Ideal S1x16640x128 .bf16)
    (s : Fin 65) (d : Fin 64) (k : Fin 256) :
    sout0_A_0 (F := Ideal) c (grid0.coords t) (ms0_0 t) (hs0_0 t) (ms0_1 t) (hs0_1 t) (ms0_2 t) (hs0_2 t) (ms0_3 t) (hs0_3 t)
      scM0_0 (Memref.isWhole_whole _) scM0_1 (Memref.isWhole_whole _) hc x0 x1 x2 (ix3 s d k)
      = x2 (ix3 0 ⟨256 * s.val + k.val, by omega⟩ ⟨64 * (t.val / 32 % 8 % 2) + d.val, by omega⟩) := by
  refine (Block.scr_at (F := Ideal) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) x0 x1 x2 hc s d k).trans ?_
  refine congrArg x2 (congrArg (ix3 _ _) (Fin.ext ?_))
  show 64 * ((grid0.coords t 1).val % 2) + d.val = 64 * (t.val / 32 % 8 % 2) + d.val
  rw [(Entry.coords_eq t).1.2]

/-- A point that fills the scratch leaves the transposed values of its head in it. -/
theorem scratch_A (t : Fin cfg0.N) (h0 : t.val % 32 = 0) (s : Fin 65) (d : Fin 64) (k : Fin 256) :
    (outsAt0 m c t.val t.isLt).2 (ix3 s d k) = V m c main_v19 (ix3 ⟨t.val / 256, by have := lt_of_lt_of_eq t.isLt N_0; omega⟩
      ⟨256 * s.val + k.val, by omega⟩ ⟨64 * (t.val / 32 % 8) + d.val, by omega⟩) := by
  have e2 := congrArg Prod.snd (outsAt0_A m c t h0)
  dsimp only at e2
  rw [e2]
  refine Eq.trans (by exact fill c t _ _ _ _ s d k) ?_
  refine (Entry.vblk_at c (V m c main_v19) t _ _).trans ?_
  refine congrArg (V m c main_v19) (congrArg (ix3 _ _) (Fin.ext ?_))
  show 128 * (t.val / 32 % 8 / 2) + (64 * (t.val / 32 % 8 % 2) + d.val) = 64 * (t.val / 32 % 8) + d.val
  omega

/-- A point that finds the scratch filled leaves it as the point before did. -/
theorem scratch_B (t : Fin cfg0.N) (h0 : ¬ t.val % 32 = 0) :
    (outsAt0 m c t.val t.isLt).2 = (outsAt0 m c (t.val - 1) (Nat.lt_of_le_of_lt (Nat.sub_le _ _) t.isLt)).2 :=
  (congrArg Prod.snd (outsAt0_B m c t h0)).trans
    (Block.scr_B (F := Ideal) c (grid0.coords t) (ms0_0 t) (hs0_0 t) (ms0_1 t) (hs0_1 t) (ms0_2 t) (hs0_2 t) (ms0_3 t) (hs0_3 t)
      scM0_0 (Memref.isWhole_whole _) scM0_1 (Memref.isWhole_whole _) (iblk m c 0 t) (iblk m c 1 t) (iblk m c 2 t) _
      (fun h => h0 ((hcond0_0 t).mp h)))

/-- Every point leaves the transposed values of its head in the scratch. -/
theorem scratch (s : Fin 65) (d : Fin 64) (k : Fin 256) : ∀ (n : ℕ) (hn : n < cfg0.N),
    (outsAt0 m c n hn).2 (ix3 s d k) = V m c main_v19 (ix3 ⟨n / 256, by have := lt_of_lt_of_eq hn N_0; omega⟩
      ⟨256 * s.val + k.val, by omega⟩ ⟨64 * (n / 32 % 8) + d.val, by omega⟩)
  | 0, hn => scratch_A m c ⟨0, hn⟩ rfl s d k
  | n + 1, hn => by
    by_cases h0 : (n + 1) % 32 = 0
    · exact scratch_A m c ⟨n + 1, hn⟩ h0 s d k
    · refine (congrFun (scratch_B m c ⟨n + 1, hn⟩ h0) _).trans ((scratch s d k n (Nat.lt_of_succ_lt hn)).trans ?_)
      have e1 : n / 256 = (n + 1) / 256 := by omega
      have e2 : n / 32 % 8 = (n + 1) / 32 % 8 := by omega
      exact congrArg (V m c main_v19) (congrArg₂ (fun x y => ix3 x _ y) (Fin.ext e1)
        (Fin.ext (congrArg (fun z => 64 * z + d.val) e2)))

/-- The block of the result a point computes over its blocks of the queries and keys and the scratch. -/
def res (x0 : Vec Ideal S1x512x128 .bf16) (x1 : Vec Ideal S1x16640x128 .bf16) (xs : Vec Ideal S65x64x256 .bf16) : Vec Ideal S1x64x512 .bf16 :=
  Block.quot (Block.acc (k0_pay80 x0) (Block.keyTile x1) (Block.valTile xs) 65 le_rfl) (Block.den (k0_pay80 x0) (Block.keyTile x1) 65 le_rfl)

theorem res_A (t : Fin cfg0.N) (hc : cond0_0 (grid0.coords t)) (x0 : Vec Ideal S1x512x128 .bf16) (x1 x2 : Vec Ideal S1x16640x128 .bf16) :
    out0_A_3 (F := Ideal) c (grid0.coords t) (ms0_0 t) (hs0_0 t) (ms0_1 t) (hs0_1 t) (ms0_2 t) (hs0_2 t) (ms0_3 t) (hs0_3 t)
      scM0_0 (Memref.isWhole_whole _) scM0_1 (Memref.isWhole_whole _) hc x0 x1 x2
      = res x0 x1 (sout0_A_0 (F := Ideal) c (grid0.coords t) (ms0_0 t) (hs0_0 t) (ms0_1 t) (hs0_1 t) (ms0_2 t) (hs0_2 t) (ms0_3 t) (hs0_3 t)
        scM0_0 (Memref.isWhole_whole _) scM0_1 (Memref.isWhole_whole _) hc x0 x1 x2) :=
  Block.out_A (F := Ideal) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) x0 x1 x2 hc

theorem res_B (t : Fin cfg0.N) (hc : ¬ cond0_0 (grid0.coords t)) (x0 : Vec Ideal S1x512x128 .bf16) (x1 x2 : Vec Ideal S1x16640x128 .bf16)
    (xs : Vec Ideal S65x64x256 .bf16) :
    out0_B_3 (F := Ideal) c (grid0.coords t) (ms0_0 t) (hs0_0 t) (ms0_1 t) (hs0_1 t) (ms0_2 t) (hs0_2 t) (ms0_3 t) (hs0_3 t)
      scM0_0 (Memref.isWhole_whole _) scM0_1 (Memref.isWhole_whole _) hc x0 x1 x2 xs = res x0 x1 xs :=
  Block.out_B (F := Ideal) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) x0 x1 x2 xs hc

/-- A point's block of the queries, in the queries' array. -/
def qblk (t : Fin cfg0.N) : Vec Ideal S1x512x128 .bf16 := iblk m c 0 t
/-- A point's block of the keys, in the keys' array. -/
def kblk (t : Fin cfg0.N) : Vec Ideal S1x16640x128 .bf16 := iblk m c 1 t

/-- Every point's block of the result, over its blocks of the queries and keys and the scratch it leaves. -/
theorem block (t : Fin cfg0.N) :
    (outsAt0 m c t.val t.isLt).1 = res (qblk m c t) (kblk m c t) (outsAt0 m c t.val t.isLt).2 := by
  by_cases h0 : t.val % 32 = 0
  · have e := outsAt0_A m c t h0
    have e1 := congrArg Prod.fst e
    have e2 := congrArg Prod.snd e
    dsimp only at e1 e2
    rw [e1, e2]
    exact res_A c t _ _ _ _
  · have e1 := congrArg Prod.fst (outsAt0_B m c t h0)
    dsimp only at e1
    rw [scratch_B m c t h0, e1]
    exact res_B c t _ _ _ _ _

/-- Every point's block of the result, at an index. -/
theorem block_at (t : Fin cfg0.N) (d : Fin 64) (j : Fin 512) :
    (outsAt0 m c t.val t.isLt).1 (ix3 0 d j)
      = Ideal.div (∑ s : Fin 65, ∑ k : Fin 256, (outsAt0 m c t.val t.isLt).2 (ix3 s d k)
            * Block.wt (qblk m c t) (kblk m c t) ⟨256 * s.val + k.val, by omega⟩ j)
          (∑ s : Fin 65, ∑ k : Fin 256, Block.wt (qblk m c t) (kblk m c t) ⟨256 * s.val + k.val, by omega⟩ j) := by
  refine (congrFun (block m c t) _).trans ((Block.quot_at _ _ d j).trans ?_)
  exact congrArg₂ Ideal.div (Block.acc_at _ _ _ d j 65 le_rfl) (Block.den_at _ _ j 65 le_rfl)

/-- A sum over the tiles and their keys is a sum over the keys. -/
theorem tiles (f : Fin 16640 → EReal) :
    ∑ s : Fin 65, ∑ k : Fin 256, f ⟨256 * s.val + k.val, by omega⟩ = ∑ r : Fin 16640, f r := by
  rw [← Fintype.sum_prod_type']
  refine Fintype.sum_equiv (finProdFinEquiv (m := 65) (n := 256)) _ _ (fun x => ?_)
  refine congrArg f (Fin.ext ?_)
  show 256 * x.1.val + x.2.val = x.2.val + 256 * x.1.val
  omega

/-- Entries past the 96th are zero: the sum over a padded slot is the sum over its first 96 entries. -/
theorem slot (f g : Fin 128 → EReal) (F G : Fin 96 → EReal)
    (hf : ∀ e : Fin 128, f e = if he : e.val < 96 then F ⟨e.val, he⟩ else 0)
    (hg : ∀ e : Fin 128, g e = if he : e.val < 96 then G ⟨e.val, he⟩ else 0) :
    ∑ e : Fin 128, f e * g e = ∑ e : Fin 96, F e * G e := by
  rw [show (∑ e : Fin 128, f e * g e) = ∑ e : Fin (96 + 32), f e * g e from rfl, Fin.sum_univ_add]
  have z : ∀ e : Fin 32, f (Fin.natAdd 96 e) * g (Fin.natAdd 96 e) = 0 := fun e => by
    rw [hf, dif_neg (by simp), zero_mul]
  rw [Finset.sum_congr rfl (fun e _ => z e), Finset.sum_const_zero, add_zero]
  refine Finset.sum_congr rfl fun e _ => ?_
  rw [hf, hg, dif_pos (show (Fin.castAdd 32 e).val < 96 from e.isLt), dif_pos (show (Fin.castAdd 32 e).val < 96 from e.isLt)]
  rfl

end Cert.KernelIdeal.Point
-- ==== Proof.Ref.lean ====
module

public import proofs.«01_k».proof.Proof.Gen.ReferenceIdeal.Run
public import proofs.«01_k».proof.Proof.Softmax
public import Idealize.ShloMosaic.Lib.Pointwise
public import Idealize.ShloMosaic.Lib.Pipeline.ValueKit

/-! What the reference computes, at an index: the attention of one query of one head. -/

@[expose] public section

set_option maxRecDepth 16384

noncomputable section

namespace Cert.Attn

open Idealize.ShloMosaic Idealize.ShloMosaic.TcCoe Idealize.ShloMosaic.Tactic Idealize.SL.Sem

variable (a0 : FVec Ideal Cert.ReferenceIdeal.S2x16384x8x96 .f32) (a1 : FVec Ideal Cert.ReferenceIdeal.S2x256x8x96 .f32)
  (a2 : FVec Ideal Cert.ReferenceIdeal.S2x16384x8x96 .f32) (a3 : FVec Ideal Cert.ReferenceIdeal.S2x256x8x64 .f32)
  (a4 : FVec Ideal Cert.ReferenceIdeal.S2x16384x8x64 .f32)

/-- Entry `e` of key `k` of head `h`: the conditioning's keys come first. -/
def key (b : Fin 2) (k : Fin 16640) (h : Fin 8) (e : Fin 96) : EReal :=
  if hk : k.val < 256 then a1 (ix4 b ⟨k.val, hk⟩ h e) else a2 (ix4 b ⟨k.val - 256, by omega⟩ h e)

/-- Entry `d` of value `k` of head `h`: the conditioning's values come first. -/
def value (b : Fin 2) (k : Fin 16640) (h : Fin 8) (d : Fin 64) : EReal :=
  if hk : k.val < 256 then a3 (ix4 b ⟨k.val, hk⟩ h d) else a4 (ix4 b ⟨k.val - 256, by omega⟩ h d)

/-- The product of query `i` and key `k` of head `h`. -/
def dot (b : Fin 2) (i : Fin 16384) (h : Fin 8) (k : Fin 16640) : EReal :=
  ∑ e : Fin 96, a0 (ix4 b i h e) * key a1 a2 b k h e

/-- The product over the square root of the width. -/
def score (b : Fin 2) (i : Fin 16384) (h : Fin 8) (k : Fin 16640) : EReal :=
  Ideal.div (dot a0 a1 a2 b i h k) (Ideal.sqrt ((96 : ℝ) : EReal))

/-- The attention: the values weighted by the softmax of the scores. -/
def attn (b : Fin 2) (h : Fin 8) (d : Fin 64) (i : Fin 16384) : EReal :=
  ∑ k : Fin 16640, value a3 a4 b k h d *
    Ideal.div (Ideal.exp (score a0 a1 a2 b i h k - Finset.univ.fold max ⊥ (fun j => score a0 a1 a2 b i h j)))
      (∑ j : Fin 16640, Ideal.exp (score a0 a1 a2 b i h j - Finset.univ.fold max ⊥ (fun j => score a0 a1 a2 b i h j)))

end Cert.Attn

namespace Cert.ReferenceIdeal.At

open Idealize.ShloMosaic Idealize.ShloMosaic.TcCoe Idealize.ShloMosaic.Tactic Idealize.SL.Sem
open Cert.ReferenceIdeal.Gen

/-- The keys' concatenation at an index. -/
theorem key_at (a1 : FVec Ideal S2x256x8x96 .f32) (a2 : FVec Ideal S2x16384x8x96 .f32) (b : Fin 2) (k : Fin 16640) (h : Fin 8) (e : Fin 96) :
    (concatenate S2x16640x8x96 1 [⟨S2x256x8x96, a1⟩, ⟨S2x16384x8x96, a2⟩] concatenates_S2x256x8x96_S2x16384x8x96_S2x16640x8x96_d1
      : FVec Ideal S2x16640x8x96 .f32) (ix4 b k h e) = Cert.Attn.key a1 a2 b k h e := by
  pointwise [Cert.Attn.key]

/-- The values' concatenation at an index. -/
theorem value_at (a3 : FVec Ideal S2x256x8x64 .f32) (a4 : FVec Ideal S2x16384x8x64 .f32) (b : Fin 2) (k : Fin 16640) (h : Fin 8) (e : Fin 64) :
    (concatenate S2x16640x8x64 1 [⟨S2x256x8x64, a3⟩, ⟨S2x16384x8x64, a4⟩] concatenates_S2x256x8x64_S2x16384x8x64_S2x16640x8x64_d1
      : FVec Ideal S2x16640x8x64 .f32) (ix4 b k h e) = Cert.Attn.value a3 a4 b k h e := by
  pointwise [Cert.Attn.value]

/-- The scores at an index. -/
theorem score_at (a0 : FVec Ideal S2x16384x8x96 .f32) (K : FVec Ideal S2x16640x8x96 .f32) (b : Fin 2) (h : Fin 8) (i : Fin 16384) (k : Fin 16640) :
    (Host.divf (Host.dotGeneral dot_S2x16384x8x96_S2x16640x8x96_S2x8x16384x16640_3_3_1_1_02_02 none a0 K)
      (broadcastInDim S2x8x16384x16640 ![] bcast_S_S2x8x16384x16640 (Host.sqrt (constant S_ .f32 0x42C00000#32)))
      : FVec Ideal S2x8x16384x16640 .f32) (ix4 b h i k)
      = Ideal.div (∑ e : Fin 96, a0 (ix4 b i h e) * K (ix4 b k h e)) (Ideal.sqrt ((96 : ℝ) : EReal)) := by
  rw [← Cert.Softmax.bits_96]
  pointwise

theorem reduces_last : Shape.Reduces S2x8x16384x16640 [3] S2x8x16384 := by decide

/-- The maximum along the keys, at an index. -/
theorem reduceMax_at (S : S2x8x16384x16640.Idx → EReal) (v : S_.Idx → EReal) (b : Fin 2) (h : Fin 8) (i : Fin 16384) :
    Host.reduce (max : EReal → EReal → EReal) S v reducesTo_S2x8x16384x16640_S2x8x16384_d3 h_S_ (ix3 b h i)
      = Finset.univ.fold max (v (Shape.Idx.first h_S_)) (fun k : Fin 16640 => S (ix4 b h i k)) := by
  refine (Host.reduce_eq_fold_single max S v reducesTo_S2x8x16384x16640_S2x8x16384_d3 reduces_last h_S_ (ix3 b h i)).trans ?_
  refine congrArg (fun f : Fin 16640 → EReal => Finset.univ.fold max (v (Shape.Idx.first h_S_)) f) (funext fun k => ?_)
  refine congrArg S (funext fun a => Fin.ext ?_)
  fin_cases a <;> rfl

/-- The number subtracted from the scores, at an index: their maximum. -/
theorem max_at (S : FVec Ideal S2x8x16384x16640 .f32) (b : Fin 2) (h : Fin 8) (i : Fin 16384) :
    (maximumf (broadcastInDim S2x8x16384 ![] bcast_S_S2x8x16384 (constant S_ .f32 0xFF800000#32))
      (Host.reduce FloatOps.maximumf S (constant S_ .f32 0xFF800000#32) reducesTo_S2x8x16384x16640_S2x8x16384_d3 h_S_)
      : FVec Ideal S2x8x16384 .f32) (ix3 b h i) = Finset.univ.fold max ⊥ (fun k : Fin 16640 => S (ix4 b h i k)) := by
  have e : (Host.reduce FloatOps.maximumf S (constant S_ .f32 0xFF800000#32) reducesTo_S2x8x16384x16640_S2x8x16384_d3 h_S_
      : FVec Ideal S2x8x16384 .f32) (ix3 b h i) = Finset.univ.fold max (Ideal.ofBits .f32 0xFF800000#32) (fun k : Fin 16640 => S (ix4 b h i k)) :=
    reduceMax_at S (constant S_ .f32 0xFF800000#32 : FVec Ideal S_ .f32) b h i
  refine (ValueIdx.maximumf_apply _ _ _).trans ?_
  rw [e, Cert.Softmax.bits_bot]
  exact max_eq_right (Cert.Softmax.bits_bot.trans_le bot_le)

/-- The exponentials at an index. -/
theorem exp_at (S : FVec Ideal S2x8x16384x16640 .f32) (M : FVec Ideal S2x8x16384 .f32) (b : Fin 2) (h : Fin 8) (i : Fin 16384) (k : Fin 16640) :
    (Host.exp (subf S (broadcastInDim S2x8x16384x16640 ![0, 1, 2, 3] bcast_S2x8x16384x1_S2x8x16384x16640_0_1_2_3
      (broadcastInDim S2x8x16384x1 ![0, 1, 2] bcast_S2x8x16384_S2x8x16384x1_0_1_2 M)))
      : FVec Ideal S2x8x16384x16640 .f32) (ix4 b h i k) = Ideal.exp (S (ix4 b h i k) - M (ix3 b h i)) := by
  pointwise

/-- The softmax at an index, from its exponentials. -/
theorem prob_at (E : FVec Ideal S2x8x16384x16640 .f32) (b : Fin 2) (h : Fin 8) (i : Fin 16384) (k : Fin 16640) :
    (Host.divf E (broadcastInDim S2x8x16384x16640 ![0, 1, 2, 3] bcast_S2x8x16384x1_S2x8x16384x16640_0_1_2_3
      (broadcastInDim S2x8x16384x1 ![0, 1, 2] bcast_S2x8x16384_S2x8x16384x1_0_1_2
        (Host.reduceAdd E (constant S_ .f32 0x00000000#32) reducesTo_S2x8x16384x16640_S2x8x16384_d3 h_S_)))
      : FVec Ideal S2x8x16384x16640 .f32) (ix4 b h i k) = Ideal.div (E (ix4 b h i k)) (∑ j : Fin 16640, E (ix4 b h i j)) := by
  pointwise

/-- The softmax at an index, from the scores of one query. -/
theorem soft_at (S : FVec Ideal S2x8x16384x16640 .f32) (b : Fin 2) (h : Fin 8) (i : Fin 16384) (sc : Fin 16640 → EReal)
    (hs : ∀ k, S (ix4 b h i k) = sc k) (k : Fin 16640) :
    (Host.divf
      (Host.exp (subf S (broadcastInDim S2x8x16384x16640 ![0, 1, 2, 3] bcast_S2x8x16384x1_S2x8x16384x16640_0_1_2_3
        (broadcastInDim S2x8x16384x1 ![0, 1, 2] bcast_S2x8x16384_S2x8x16384x1_0_1_2
          (maximumf (broadcastInDim S2x8x16384 ![] bcast_S_S2x8x16384 (constant S_ .f32 0xFF800000#32))
            (Host.reduce FloatOps.maximumf S (constant S_ .f32 0xFF800000#32) reducesTo_S2x8x16384x16640_S2x8x16384_d3 h_S_))))))
      (broadcastInDim S2x8x16384x16640 ![0, 1, 2, 3] bcast_S2x8x16384x1_S2x8x16384x16640_0_1_2_3
        (broadcastInDim S2x8x16384x1 ![0, 1, 2] bcast_S2x8x16384_S2x8x16384x1_0_1_2
          (Host.reduceAdd (Host.exp (subf S (broadcastInDim S2x8x16384x16640 ![0, 1, 2, 3] bcast_S2x8x16384x1_S2x8x16384x16640_0_1_2_3
            (broadcastInDim S2x8x16384x1 ![0, 1, 2] bcast_S2x8x16384_S2x8x16384x1_0_1_2
              (maximumf (broadcastInDim S2x8x16384 ![] bcast_S_S2x8x16384 (constant S_ .f32 0xFF800000#32))
                (Host.reduce FloatOps.maximumf S (constant S_ .f32 0xFF800000#32) reducesTo_S2x8x16384x16640_S2x8x16384_d3 h_S_))))))
            (constant S_ .f32 0x00000000#32) reducesTo_S2x8x16384x16640_S2x8x16384_d3 h_S_)))
      : FVec Ideal S2x8x16384x16640 .f32) (ix4 b h i k)
      = Ideal.div (Ideal.exp (sc k - Finset.univ.fold max ⊥ (fun j => sc j)))
        (∑ j : Fin 16640, Ideal.exp (sc j - Finset.univ.fold max ⊥ (fun j => sc j))) := by
  have hM := (max_at S b h i).trans
    (congrArg (fun f : Fin 16640 → EReal => Finset.univ.fold max ⊥ f) (funext hs))
  have hE := fun j => (exp_at S _ b h i j).trans (congrArg Ideal.exp (congrArg₂ (fun x y : EReal => x - y) (hs j) hM))
  exact (prob_at _ b h i k).trans (congrArg₂ Ideal.div (hE k) (Finset.sum_congr rfl fun j _ => hE j))

/-- The result at an index, from the values and the softmax. -/
theorem out_at (W : FVec Ideal S2x16640x8x64 .f32) (P : FVec Ideal S2x8x16384x16640 .f32) (b : Fin 2) (h : Fin 8) (d : Fin 64) (i : Fin 16384) :
    (truncf .bf16 (shapeCast S2x512x16384 (Host.dotGeneral dot_S2x16640x8x64_S2x8x16384x16640_S2x8x64x16384_1_3_3_2_02_01 none W P)
        shapeCasts_S2x8x64x16384_S2x512x16384 : FVec Ideal S2x512x16384 .f32) bitsLt_bf16_f32
      : FVec Ideal S2x512x16384 .bf16) (ix3 b ⟨64 * h.val + d.val, by omega⟩ i)
      = ∑ k : Fin 16640, W (ix4 b k h d) * P (ix4 b h i k) := by
  pointwise

/-- The reference's run: its result is the attention of its arguments, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (b : Fin 2) (h : Fin 8) (d : Fin 64) (i : Fin 16384),
        r.2.mem ((c.tc : Thread nD τ).loc main_v19) (ix3 b ⟨64 * h.val + d.val, by omega⟩ i)
          = Cert.Attn.attn (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) b h d i)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) := by
  refine (θ_run defs _ _).mono (fun r hr c => ⟨fun b h d i => ?_, (hr c).2⟩) (Value.run (F := Ideal) m ρ)
  rw [(hr c).1]
  refine (out_at _ _ b h d i).trans (Finset.sum_congr rfl fun k _ => ?_)
  refine congrArg₂ (fun x y : EReal => x * y) (value_at _ _ b k h d) (soft_at _ b h i _ (fun j => ?_) k)
  refine (score_at _ _ b h i j).trans ?_
  unfold Cert.Attn.score Cert.Attn.dot
  exact congrArg (fun x => Ideal.div x _) (Finset.sum_congr rfl fun e _ => congrArg₂ (fun x y : EReal => x * y) rfl (key_at _ _ b j h e))

end Cert.ReferenceIdeal.At
-- ==== Proof.Equation.lean ====
module

public import proofs.«01_k».proof.Proof.Ref

/-! The equation: over finite queries and keys, the kernel's quotient of two sums weighted by powers of two is the
    attention. -/

@[expose] public section

set_option maxRecDepth 16384

noncomputable section

namespace Cert.Attn

open Idealize.ShloMosaic Idealize.ShloMosaic.TcCoe Idealize.ShloMosaic.Tactic

variable (a0 : FVec Ideal Cert.ReferenceIdeal.S2x16384x8x96 .f32) (a1 : FVec Ideal Cert.ReferenceIdeal.S2x256x8x96 .f32)
  (a2 : FVec Ideal Cert.ReferenceIdeal.S2x16384x8x96 .f32) (a3 : FVec Ideal Cert.ReferenceIdeal.S2x256x8x64 .f32)
  (a4 : FVec Ideal Cert.ReferenceIdeal.S2x16384x8x64 .f32)

/-- The kernel's weight of key `k` for query `i` of head `h`: a power of two. -/
def pow2 (b : Fin 2) (i : Fin 16384) (h : Fin 8) (k : Fin 16640) : EReal :=
  Ideal.exp2 (∑ e : Fin 96, key a1 a2 b k h e * Ideal.div (a0 (ix4 b i h e)) ((Real.sqrt 96 * Real.log 2 : ℝ) : EReal))

/-- The kernel's result: the values weighted by the powers of two, divided once by the sum of the weights. -/
def online (b : Fin 2) (h : Fin 8) (d : Fin 64) (i : Fin 16384) : EReal :=
  Ideal.div (∑ k : Fin 16640, value a3 a4 b k h d * pow2 a0 a1 a2 b i h k) (∑ k : Fin 16640, pow2 a0 a1 a2 b i h k)

variable {a0 a1 a2}

/-- Over finite queries and keys the two are equal. -/
theorem online_eq (h0 : ∀ j, ∃ x : ℝ, a0 j = (x : EReal)) (h1 : ∀ j, ∃ x : ℝ, a1 j = (x : EReal))
    (h2 : ∀ j, ∃ x : ℝ, a2 j = (x : EReal)) (b : Fin 2) (h : Fin 8) (d : Fin 64) (i : Fin 16384) :
    online a0 a1 a2 a3 a4 b h d i = attn a0 a1 a2 a3 a4 b h d i := by
  have hk : ∀ k e, ∃ x : ℝ, key a1 a2 b k h e = (x : EReal) := fun k e => by
    unfold key
    split
    · exact h1 _
    · exact h2 _
  choose Q hQ using fun e : Fin 96 => h0 (ix4 b i h e)
  choose K hK using hk
  have hs0 : Real.sqrt 96 ≠ 0 := (Real.sqrt_pos.2 (by norm_num)).ne'
  have hl0 : Real.log 2 ≠ 0 := (Real.log_pos one_lt_two).ne'
  have hD : Real.sqrt 96 * Real.log 2 ≠ 0 := mul_ne_zero hs0 hl0
  have hscore : ∀ k, score a0 a1 a2 b i h k = (((∑ e : Fin 96, Q e * K k e) * (1 / Real.sqrt 96) : ℝ) : EReal) := fun k => by
    unfold score dot
    rw [Ideal.sqrt_coe, if_neg (by norm_num), Ideal.div_coe hs0]
    simp only [hQ, hK, ← EReal.coe_mul]
    rw [← Cert.Softmax.coe_sum, ← EReal.coe_mul]
  have hpow : ∀ k, pow2 a0 a1 a2 b i h k = ((Real.exp ((∑ e : Fin 96, Q e * K k e) * (1 / Real.sqrt 96)) : ℝ) : EReal) := fun k => by
    unfold pow2
    rw [← Cert.Softmax.exp2_scaled]
    simp only [hQ, hK, Ideal.div_coe hD, ← EReal.coe_mul]
    rw [← Cert.Softmax.coe_sum, Finset.sum_mul]
    exact congrArg (fun x : ℝ => Ideal.exp2 (x : EReal)) (Finset.sum_congr rfl fun e _ => by ring)
  unfold online attn
  simp only [hpow, hscore]
  obtain ⟨M, hM⟩ := Cert.Softmax.fold_max_coe (fun k : Fin 16640 => (∑ e : Fin 96, Q e * K k e) * (1 / Real.sqrt 96))
  rw [hM]
  exact Cert.Softmax.quotient_eq_softmax _ M _

end Cert.Attn
-- ==== Proof.Array.lean ====
module

public import proofs.«01_k».proof.Proof.Point
public import proofs.«01_k».proof.Proof.Equation

/-! What the array the kernel writes holds, at an index, as a function of the arguments. -/

@[expose] public section

set_option maxRecDepth 16384

noncomputable section

namespace Cert.KernelIdeal.Array

open Idealize.ShloMosaic Idealize.ShloMosaic.TcCoe Idealize.ShloMosaic.Tactic
open Cert.KernelIdeal.Gen

variable (m : (ℓ : Loc nD τ sig) → Buf (Elt Ideal) ℓ) (c : Dev nD)

/-- The weight a point gives a key for a query of its block. -/
theorem wt_at (t : Fin cfg0.N) (b : Fin 2) (h : Fin 8) (i : Fin 16384) (r : Fin 16640) (j : Fin 512)
    (hb : t.val / 256 = b.val) (hh : t.val / 32 % 8 = h.val) (hi : 512 * (t.val % 32) + j.val = i.val) :
    Block.wt (Point.qblk m c t) (Point.kblk m c t) r j
      = Cert.Attn.pow2 (m (c.tc.loc main_arg0)) (m (c.tc.loc main_arg1)) (m (c.tc.loc main_arg2)) b i h r := by
  unfold Block.wt Cert.Attn.pow2
  refine congrArg Ideal.exp2 (Point.slot _ _ _ _ (fun e => ?_) fun e => ?_)
  · refine (Entry.kblk_at c (V m c main_v14) t r e).trans (Eq.trans ?_ (Entry.keys_at m c b r h e))
    refine congrArg (V m c main_v14) (congrArg₂ (fun x y => ix3 x r y) (Fin.ext hb) (Fin.ext ?_))
    show 128 * (t.val / 32 % 8) + e.val = 128 * h.val + e.val
    rw [hh]
  · refine (Entry.qblk_at c (V m c main_v7) t j e).trans (Eq.trans ?_ (Entry.queries_at m c b i h e))
    refine congrArg (V m c main_v7) ?_
    have e1 : (⟨t.val / 256, by have := lt_of_lt_of_eq t.isLt N_0; omega⟩ : Fin 2) = b := Fin.ext hb
    have e2 : (⟨512 * (t.val % 32) + j.val, by omega⟩ : Fin 16384) = i := Fin.ext hi
    have e3 : (⟨128 * (t.val / 32 % 8) + e.val, by omega⟩ : Fin 1024) = ⟨128 * h.val + e.val, by omega⟩ :=
      Fin.ext (show 128 * (t.val / 32 % 8) + e.val = 128 * h.val + e.val by rw [hh])
    rw [e1, e2, e3]

/-- The value the scratch holds for a key after a point. -/
theorem scratch_at (t : Fin cfg0.N) (b : Fin 2) (h : Fin 8) (s : Fin 65) (d : Fin 64) (k : Fin 256)
    (hb : t.val / 256 = b.val) (hh : t.val / 32 % 8 = h.val) :
    (outsAt0 m c t.val t.isLt).2 (ix3 s d k)
      = Cert.Attn.value (m (c.tc.loc main_arg3)) (m (c.tc.loc main_arg4)) b ⟨256 * s.val + k.val, by omega⟩ h d := by
  refine (Point.scratch m c s d k t.val t.isLt).trans (Eq.trans ?_ (Entry.values_at m c b ⟨256 * s.val + k.val, by omega⟩ h d))
  refine congrArg (V m c main_v19) (congrArg₂ (fun x y => ix3 x _ y) (Fin.ext hb) (Fin.ext ?_))
  show 64 * (t.val / 32 % 8) + d.val = 64 * h.val + d.val
  rw [hh]

/-- The block a point leaves, at an index. -/
theorem point_at (t : Fin cfg0.N) (b : Fin 2) (h : Fin 8) (i : Fin 16384) (d : Fin 64) (j : Fin 512)
    (hb : t.val / 256 = b.val) (hh : t.val / 32 % 8 = h.val) (hi : 512 * (t.val % 32) + j.val = i.val) :
    (outsAt0 m c t.val t.isLt).1 (ix3 0 d j)
      = Cert.Attn.online (m (c.tc.loc main_arg0)) (m (c.tc.loc main_arg1)) (m (c.tc.loc main_arg2))
          (m (c.tc.loc main_arg3)) (m (c.tc.loc main_arg4)) b h d i := by
  refine (Point.block_at m c t d j).trans (congrArg₂ Ideal.div ?_ ?_)
  · refine Eq.trans (Finset.sum_congr rfl fun s _ => Finset.sum_congr rfl fun k _ => ?_)
      (Point.tiles (fun r => Cert.Attn.value (m (c.tc.loc main_arg3)) (m (c.tc.loc main_arg4)) b r h d
        * Cert.Attn.pow2 (m (c.tc.loc main_arg0)) (m (c.tc.loc main_arg1)) (m (c.tc.loc main_arg2)) b i h r))
    exact congrArg₂ (fun x y : EReal => x * y) (scratch_at m c t b h s d k hb hh) (wt_at m c t b h i _ j hb hh hi)
  · exact Eq.trans (Finset.sum_congr rfl fun s _ => Finset.sum_congr rfl fun k _ => wt_at m c t b h i _ j hb hh hi)
      (Point.tiles (fun r => Cert.Attn.pow2 (m (c.tc.loc main_arg0)) (m (c.tc.loc main_arg1)) (m (c.tc.loc main_arg2)) b i h r))

/-- The array the kernel writes, at an index. -/
theorem array_at (b : Fin 2) (h : Fin 8) (d : Fin 64) (i : Fin 16384) :
    Value.G3 m c (ix3 b ⟨64 * h.val + d.val, by omega⟩ i)
      = Cert.Attn.online (m (c.tc.loc main_arg0)) (m (c.tc.loc main_arg1)) (m (c.tc.loc main_arg2))
          (m (c.tc.loc main_arg3)) (m (c.tc.loc main_arg4)) b h d i := by
  have hp : Value.pt3Of (ix3 b ⟨64 * h.val + d.val, by omega⟩ i) = 256 * b.val + 32 * h.val + i.val / 512 := by
    show 256 * (b.val / 1 - 0) + 32 * ((64 * h.val + d.val) / 64 - 0) + 1 * (i.val / 512 - 0) = _
    omega
  have hlt : Value.pt3Of (ix3 b ⟨64 * h.val + d.val, by omega⟩ i) < cfg0.N := by
    rw [hp]
    exact lt_of_lt_of_eq (show _ < 512 by omega) N_0.symm
  have hl : Value.loc3Of (ix3 b ⟨64 * h.val + d.val, by omega⟩ i) = ix3 0 d ⟨i.val % 512, Nat.mod_lt _ (by decide)⟩ := by
    funext a
    apply Fin.ext
    match a with
    | ⟨0, _⟩ => exact Nat.mod_one _
    | ⟨1, _⟩ => show (64 * h.val + d.val) % 64 = d.val; omega
    | ⟨2, _⟩ => rfl
  unfold Value.G3
  rw [dif_pos hlt, ← Value.outsAt0_sweep m c _ hlt, hl]
  refine point_at m c ⟨_, hlt⟩ b h i d _ ?_ ?_ ?_
  · show Value.pt3Of _ / 256 = _; rw [hp]; omega
  · show Value.pt3Of _ / 32 % 8 = _; rw [hp]; omega
  · show 512 * (Value.pt3Of _ % 32) + i.val % 512 = _; rw [hp]; omega

end Cert.KernelIdeal.Array
-- ==== Proof.PostBlock.lean ====
module

public import proofs.«01_k».proof.Proof.Gen.Kernel2Ideal.Value
public import Idealize.ShloMosaic.Lib.Pointwise
public import Idealize.ShloMosaic.Lib.Pipeline.ValueKit
public import Idealize.ShloMosaic.Lib.StableHlo.ReadAt

/-! What one point of the second kernel computes over its blocks, at an index. -/

@[expose] public section

set_option maxRecDepth 16384

noncomputable section

namespace Cert.Kernel2Ideal.Block

open Idealize.ShloMosaic Idealize.ShloMosaic.TcCoe Idealize.ShloMosaic.Tactic
open Cert.Kernel2Ideal.Gen

variable (P0 P2 : Vec Ideal S1x512x512 .bf16) (P1 P3 : Vec Ideal S512x1024 .bf16) (P4 : Vec Ideal S1x512x1024 .f32)
  (P5 P7 P8 : Vec Ideal S1x1x1024 .f32) (P6 : Vec Ideal S1x1024 .f32)

/-- The residual stream of a block, at a row and a column. -/
theorem mid_at (r : Fin 512) (j : Fin 1024) :
    k0_pay2 P0 P1 P2 P3 P4 P5 (ix2 r j)
      = P4 (ix3 0 r j) + P5 (ix3 0 0 j) * ((∑ k : Fin 512, P0 (ix3 0 k r) * P1 (ix2 k j)) + ∑ k : Fin 512, P2 (ix3 0 r k) * P3 (ix2 k j)) := by
  pointwise [k0_pay2]

/-- The sum of a row of a block. -/
theorem sum_at (X : FVec Ideal S512x1024 .f32) (r : Fin 512) :
    (multiReduction .add [1] S512 (mulf X X) 0x00000000#32 reduces_S512x1024_S512 (.inl rfl) rfl : FVec Ideal S512 .f32) (ix1 r)
      = ∑ j : Fin 1024, X (ix2 r j) * X (ix2 r j) := by
  pointwise

/-- The normalised row of a block. -/
theorem norm_at (r : Fin 512) (j : Fin 1024) :
    k0_pay4 P0 P1 P2 P3 P4 P5 (ix2 r j)
      = k0_pay2 P0 P1 P2 P3 P4 P5 (ix2 r j)
        * Ideal.rsqrt (Ideal.div (∑ j : Fin 1024, k0_pay2 P0 P1 P2 P3 P4 P5 (ix2 r j) * k0_pay2 P0 P1 P2 P3 P4 P5 (ix2 r j))
            (Ideal.ofBits .f32 0x44800000#32) + Ideal.ofBits .f32 0x358637BD#32) := by
  unfold k0_pay4
  generalize k0_pay2 P0 P1 P2 P3 P4 P5 = X
  pointwise

/-- The scaled and shifted row of a block. -/
theorem feat_at (N : FVec Ideal S512x1024 .f32) (r : Fin 512) (j : Fin 1024) :
    k0_pay5 N P6 P7 P8 (ix2 r j)
      = N (ix2 r j) * P6 (ix2 0 j) * (Ideal.ofBits .f32 0x3F800000#32 + P7 (ix3 0 0 j)) + P8 (ix3 0 0 j) := by
  pointwise [k0_pay5]

/-- The stored features, at an index. -/
theorem feat6_at (N : FVec Ideal S512x1024 .f32) (r : Fin 512) (j : Fin 1024) :
    k0_pay6 N P6 P7 P8 (ix3 0 r j) = k0_pay5 N P6 P7 P8 (ix2 r j) := by
  unfold k0_pay6
  generalize k0_pay5 N P6 P7 P8 = X
  pointwise

/-- The stored residual stream, at an index. -/
theorem mid3_at (r : Fin 512) (j : Fin 1024) :
    k0_pay3 P0 P1 P2 P3 P4 P5 (ix3 0 r j) = k0_pay2 P0 P1 P2 P3 P4 P5 (ix2 r j) := by
  unfold k0_pay3
  generalize k0_pay2 P0 P1 P2 P3 P4 P5 = X
  pointwise

end Cert.Kernel2Ideal.Block
-- ==== Proof.PostRef.lean ====
module

public import proofs.«01_k».proof.Proof.Gen.Reference2Ideal.Run
public import Idealize.ShloMosaic.Lib.Pointwise
public import Idealize.ShloMosaic.Lib.Pipeline.ValueKit

/-! What the second reference computes, at an index: the residual stream after the output projection, and its normalised and
    modulated rows. -/

@[expose] public section

set_option maxRecDepth 16384

noncomputable section

namespace Cert.Post

open Idealize.ShloMosaic Idealize.ShloMosaic.TcCoe Idealize.ShloMosaic.Tactic

variable (o z : FVec Ideal Cert.Reference2Ideal.S2x16384x512 .f32) (x : FVec Ideal Cert.Reference2Ideal.S2x16384x1024 .f32)
  (md : FVec Ideal Cert.Reference2Ideal.S2x6144 .f32) (gn : FVec Ideal Cert.Reference2Ideal.S1024 .f32)
  (w : FVec Ideal Cert.Reference2Ideal.S1024x1024 .f32)

/-- Entry `k` of a position's mixed features: the attention's first. -/
def cat (b : Fin 2) (i : Fin 16384) (k : Fin 1024) : EReal :=
  if hk : k.val < 512 then o (ix3 b i ⟨k.val, hk⟩) else z (ix3 b i ⟨k.val - 512, by omega⟩)

/-- The residual stream: the input plus the gated projection. -/
def mid (b : Fin 2) (i : Fin 16384) (j : Fin 1024) : EReal :=
  x (ix3 b i j) + md (ix2 b ⟨2048 + j.val, by omega⟩) * ∑ k : Fin 1024, cat o z b i k * w (ix2 k j)

/-- One over the root of the mean square of a row, moved from zero. -/
def scale (b : Fin 2) (i : Fin 16384) : EReal :=
  Ideal.rsqrt (Ideal.div (∑ j : Fin 1024, mid o z x md w b i j * mid o z x md w b i j) (Ideal.ofBits .f32 0x44800000#32)
    + Ideal.ofBits .f32 0x358637BD#32)

/-- The normalised, scaled and shifted row. -/
def feat (b : Fin 2) (i : Fin 16384) (j : Fin 1024) : EReal :=
  mid o z x md w b i j * scale o z x md w b i * gn (ix1 j)
      * (Ideal.ofBits .f32 0x3F800000#32 + md (ix2 b ⟨4096 + j.val, by omega⟩))
    + md (ix2 b ⟨3072 + j.val, by omega⟩)

end Cert.Post

namespace Cert.Reference2Ideal.At

open Idealize.ShloMosaic Idealize.ShloMosaic.TcCoe Idealize.ShloMosaic.Tactic Idealize.SL.Sem
open Cert.Reference2Ideal.Gen

/-- The mixed features at an index. -/
theorem cat_at (o z : FVec Ideal S2x16384x512 .f32) (b : Fin 2) (i : Fin 16384) (k : Fin 1024) :
    (concatenate S2x16384x1024 2 [⟨S2x16384x512, o⟩, ⟨S2x16384x512, z⟩] concatenates_S2x16384x512_S2x16384x512_S2x16384x1024_d2
      : FVec Ideal S2x16384x1024 .f32) (ix3 b i k) = Cert.Post.cat o z b i k := by
  pointwise [Cert.Post.cat]

/-- The residual stream at an index, from the mixed features. -/
theorem mid_at (C x : FVec Ideal S2x16384x1024 .f32) (md : FVec Ideal S2x6144 .f32) (w : FVec Ideal S1024x1024 .f32)
    (b : Fin 2) (i : Fin 16384) (j : Fin 1024) :
    (addf x (mulf (broadcastInDim S2x16384x1024 ![0, 1, 2] bcast_S2x1x1024_S2x16384x1024_0_1_2
        (extractStridedSlice S2x1x1024 ![0, 0, 2048] (broadcastInDim S2x1x6144 ![0, 2] bcast_S2x6144_S2x1x6144_0_2 md) slices_S2x1x6144_S2x1x1024_0_0_2048))
      (Host.dotGeneral dot_S2x16384x1024_S1024x1024_S2x16384x1024_2_0_01_1_n_n none C w))
      : FVec Ideal S2x16384x1024 .f32) (ix3 b i j)
      = x (ix3 b i j) + md (ix2 b ⟨2048 + j.val, by omega⟩) * ∑ k : Fin 1024, C (ix3 b i k) * w (ix2 k j) := by
  pointwise

/-- The residual stream at an index. -/
theorem mid_eq (o z : FVec Ideal S2x16384x512 .f32) (x : FVec Ideal S2x16384x1024 .f32) (md : FVec Ideal S2x6144 .f32)
    (w : FVec Ideal S1024x1024 .f32) (b : Fin 2) (i : Fin 16384) (j : Fin 1024) :
    (addf x (mulf (broadcastInDim S2x16384x1024 ![0, 1, 2] bcast_S2x1x1024_S2x16384x1024_0_1_2
        (extractStridedSlice S2x1x1024 ![0, 0, 2048] (broadcastInDim S2x1x6144 ![0, 2] bcast_S2x6144_S2x1x6144_0_2 md) slices_S2x1x6144_S2x1x1024_0_0_2048))
      (Host.dotGeneral dot_S2x16384x1024_S1024x1024_S2x16384x1024_2_0_01_1_n_n none
        (concatenate S2x16384x1024 2 [⟨S2x16384x512, o⟩, ⟨S2x16384x512, z⟩] concatenates_S2x16384x512_S2x16384x512_S2x16384x1024_d2) w))
      : FVec Ideal S2x16384x1024 .f32) (ix3 b i j) = Cert.Post.mid o z x md w b i j :=
  (mid_at _ x md w b i j).trans (congrArg (fun s : EReal => x (ix3 b i j) + md (ix2 b ⟨2048 + j.val, by omega⟩) * s)
    (Finset.sum_congr rfl fun k _ => congrArg (fun y : EReal => y * w (ix2 k j)) (cat_at o z b i k)))

/-- The normalised, scaled and shifted row at an index, from the residual stream. -/
theorem feat_at (X : FVec Ideal S2x16384x1024 .f32) (md : FVec Ideal S2x6144 .f32) (gn : FVec Ideal S1024 .f32)
    (b : Fin 2) (i : Fin 16384) (j : Fin 1024) :
    (addf (mulf (mulf (mulf X (broadcastInDim S2x16384x1024 ![0, 1, 2] bcast_S2x16384x1_S2x16384x1024_0_1_2
        (Host.rsqrt (addf (Host.divf (broadcastInDim S2x16384x1 ![0, 1] bcast_S2x16384_S2x16384x1_0_1
            (Host.reduceAdd (mulf X X) (constant S_ .f32 0x00000000#32) reducesTo_S2x16384x1024_S2x16384_d2 h_S_))
          (broadcastInDim S2x16384x1 ![] bcast_S_S2x16384x1 (constant S_ .f32 0x44800000#32)))
          (broadcastInDim S2x16384x1 ![] bcast_S_S2x16384x1 (constant S_ .f32 0x358637BD#32))))))
        (broadcastInDim S2x16384x1024 ![0, 1, 2] bcast_S1x1x1024_S2x16384x1024_0_1_2 (broadcastInDim S1x1x1024 ![2] bcast_S1024_S1x1x1024_2 gn)))
        (broadcastInDim S2x16384x1024 ![0, 1, 2] bcast_S2x1x1024_S2x16384x1024_0_1_2
          (addf (broadcastInDim S2x1x1024 ![] bcast_S_S2x1x1024 (constant S_ .f32 0x3F800000#32))
            (extractStridedSlice S2x1x1024 ![0, 0, 4096] (broadcastInDim S2x1x6144 ![0, 2] bcast_S2x6144_S2x1x6144_0_2 md) slices_S2x1x6144_S2x1x1024_0_0_4096))))
        (broadcastInDim S2x16384x1024 ![0, 1, 2] bcast_S2x1x1024_S2x16384x1024_0_1_2
          (extractStridedSlice S2x1x1024 ![0, 0, 3072] (broadcastInDim S2x1x6144 ![0, 2] bcast_S2x6144_S2x1x6144_0_2 md) slices_S2x1x6144_S2x1x1024_0_0_3072))
      : FVec Ideal S2x16384x1024 .f32) (ix3 b i j)
      = X (ix3 b i j) * Ideal.rsqrt (Ideal.div (∑ j : Fin 1024, X (ix3 b i j) * X (ix3 b i j)) (Ideal.ofBits .f32 0x44800000#32)
            + Ideal.ofBits .f32 0x358637BD#32) * gn (ix1 j)
          * (Ideal.ofBits .f32 0x3F800000#32 + md (ix2 b ⟨4096 + j.val, by omega⟩))
        + md (ix2 b ⟨3072 + j.val, by omega⟩) := by
  pointwise

/-- A row's features, from the residual stream at that row. -/
theorem feat_of_mid (o z : FVec Ideal S2x16384x512 .f32) (x : FVec Ideal S2x16384x1024 .f32) (md : FVec Ideal S2x6144 .f32)
    (gn : FVec Ideal S1024 .f32) (w : FVec Ideal S1024x1024 .f32) (b : Fin 2) (i : Fin 16384) (j : Fin 1024) (f : Fin 1024 → EReal)
    (h : ∀ j, f j = Cert.Post.mid o z x md w b i j) :
    f j * Ideal.rsqrt (Ideal.div (∑ j : Fin 1024, f j * f j) (Ideal.ofBits .f32 0x44800000#32)
            + Ideal.ofBits .f32 0x358637BD#32) * gn (ix1 j)
          * (Ideal.ofBits .f32 0x3F800000#32 + md (ix2 b ⟨4096 + j.val, by omega⟩))
        + md (ix2 b ⟨3072 + j.val, by omega⟩) = Cert.Post.feat o z x md gn w b i j := by
  obtain rfl : f = Cert.Post.mid o z x md w b i := funext h
  rfl

/-- The second reference's run: its two results, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (b : Fin 2) (i : Fin 16384) (j : Fin 1024),
        r.2.mem ((c.tc : Thread nD τ).loc main_v11) (ix3 b i j)
          = Cert.Post.mid (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg5)) b i j)
      ∧ (∀ (b : Fin 2) (i : Fin 16384) (j : Fin 1024),
        r.2.mem ((c.tc : Thread nD τ).loc main_v31) (ix3 b i j)
          = Cert.Post.feat (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5)) b i j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r hr c => ⟨fun b i j => ?_, fun b i j => ?_, (hr c).2.2⟩) (Value.run (F := Ideal) m ρ)
  · rw [(hr c).1]
    exact mid_eq _ _ _ _ _ b i j
  · rw [(hr c).2.1]
    exact (feat_at _ _ _ b i j).trans (feat_of_mid _ _ _ _ _ _ b i j _ (mid_eq _ _ _ _ _ b i))

end Cert.Reference2Ideal.At
-- ==== Proof.PostPoint.lean ====
module

public import proofs.«01_k».proof.Proof.PostBlock
public import proofs.«01_k».proof.Proof.PostRef

/-! What the second kernel's arrays hold after its run, at an index, as functions of the arguments. -/

@[expose] public section

set_option maxRecDepth 16384

noncomputable section

namespace Cert.Kernel2Ideal.Point

open Idealize.ShloMosaic Idealize.ShloMosaic.TcCoe Idealize.ShloMosaic.Tactic
open Cert.Kernel2Ideal.Gen

theorem off2 : (![0, 0] : Fin 2 → ℕ) = fun _ => 0 := by decide
theorem off3 : (![0, 0, 0] : Fin 3 → ℕ) = fun _ => 0 := by decide

section Blocks

variable (x0 x1 : Vec Ideal S1x512x512 .bf16) (x2 : Vec Ideal S1x512x1024 .f32) (x3 x4 x5 : Vec Ideal S1x1x1024 .f32)
  (x6 : Vec Ideal S1x1024 .f32) (x7 : Vec Ideal S1024x1024 .bf16) (x8 : Vec Ideal S16x1024 .f32) (x9 : Vec Ideal S16x1 .f32)

/-- Entry `k` of a row of a block's mixed features. -/
def cat (r : Fin 512) (k : Fin 1024) : EReal :=
  if hk : k.val < 512 then x0 (ix3 0 ⟨k.val, hk⟩ r) else x1 (ix3 0 r ⟨k.val - 512, by omega⟩)

/-- A block's residual stream. -/
def mid (r : Fin 512) (j : Fin 1024) : EReal :=
  x2 (ix3 0 r j) + x3 (ix3 0 0 j) * ∑ k : Fin 1024, cat x0 x1 r k * x7 (ix2 k j)

theorem rows_lo (k : Fin 512) (j : Fin 1024) : View.ld x7 r0_1 (ix2 k j) = x7 (ix2 ⟨k.val, by omega⟩ j) := by
  refine congrArg x7 (funext fun a => Fin.ext ?_)
  match a with
  | ⟨0, _⟩ => show 0 + 1 * k.val = k.val; omega
  | ⟨1, _⟩ => show 0 + 1 * j.val = j.val; omega

theorem rows_hi (k : Fin 512) (j : Fin 1024) : View.ld x7 r0_2 (ix2 k j) = x7 (ix2 ⟨512 + k.val, by omega⟩ j) := by
  refine congrArg x7 (funext fun a => Fin.ext ?_)
  match a with
  | ⟨0, _⟩ => show 512 + 1 * k.val = 512 + k.val; omega
  | ⟨1, _⟩ => show 0 + 1 * j.val = j.val; omega

/-- The two halves of the projection are the projection of the mixed features. -/
theorem halves (r : Fin 512) (j : Fin 1024) :
    (∑ k : Fin 512, x0 (ix3 0 k r) * x7 (ix2 ⟨k.val, by omega⟩ j)) + ∑ k : Fin 512, x1 (ix3 0 r k) * x7 (ix2 ⟨512 + k.val, by omega⟩ j)
      = ∑ k : Fin 1024, cat x0 x1 r k * x7 (ix2 k j) := by
  rw [show (∑ k : Fin 1024, cat x0 x1 r k * x7 (ix2 k j)) = ∑ k : Fin (512 + 512), cat x0 x1 r k * x7 (ix2 k j) from rfl, Fin.sum_univ_add]
  refine congrArg₂ (fun x y : EReal => x + y) (Finset.sum_congr rfl fun k _ => ?_) (Finset.sum_congr rfl fun k _ => ?_)
  · refine congrArg₂ (fun x y : EReal => x * y) ?_ rfl
    unfold cat
    rw [dif_pos (show (Fin.castAdd 512 k).val < 512 from k.isLt)]
    rfl
  · refine congrArg₂ (fun x y : EReal => x * y) ?_ rfl
    unfold cat
    refine Eq.trans ?_ (dif_neg (show ¬ (Fin.natAdd 512 k).val < 512 by simp)).symm
    exact congrArg (fun q => x1 (ix3 0 r q)) (Fin.ext (by simp))

/-- A point's residual stream, at an index. -/
theorem pay2_at (r : Fin 512) (j : Fin 1024) :
    k0_pay2 (View.ld x0 r0_0) (View.ld x7 r0_1) (View.ld x1 r0_0) (View.ld x7 r0_2) (View.ld x2 r0_3) (View.ld x3 r0_4) (ix2 r j)
      = mid x0 x1 x2 x3 x7 r j := by
  rw [View.ld_unit_zero off3, View.ld_unit_zero off3, View.ld_unit_zero off3, View.ld_unit_zero off3]
  refine (Block.mid_at _ _ _ _ _ _ r j).trans ?_
  unfold mid
  rw [← halves]
  exact congrArg (fun s : EReal => x2 (ix3 0 r j) + x3 (ix3 0 0 j) * s) (congrArg₂ (fun x y : EReal => x + y)
    (Finset.sum_congr rfl fun k _ => congrArg (fun y : EReal => x0 (ix3 0 k r) * y) (rows_lo x7 k j))
    (Finset.sum_congr rfl fun k _ => congrArg (fun y : EReal => x1 (ix3 0 r k) * y) (rows_hi x7 k j)))

/-- The block of the residual stream a point leaves, at an index. -/
theorem out10_at (r : Fin 512) (j : Fin 1024) :
    out0_10 x0 x1 x2 x3 x4 x5 x6 x7 x8 x9 (ix3 0 r j) = mid x0 x1 x2 x3 x7 r j := by
  unfold out0_10
  rw [View.canon_unit_zero off3]
  exact (Block.mid3_at _ _ _ _ _ _ r j).trans (pay2_at x0 x1 x2 x3 x7 r j)

/-- A block's normalised, scaled and shifted rows. -/
def feat (r : Fin 512) (j : Fin 1024) : EReal :=
  mid x0 x1 x2 x3 x7 r j * Ideal.rsqrt (Ideal.div (∑ j : Fin 1024, mid x0 x1 x2 x3 x7 r j * mid x0 x1 x2 x3 x7 r j)
        (Ideal.ofBits .f32 0x44800000#32) + Ideal.ofBits .f32 0x358637BD#32) * x6 (ix2 0 j)
      * (Ideal.ofBits .f32 0x3F800000#32 + x5 (ix3 0 0 j)) + x4 (ix3 0 0 j)

/-- The features before they are stored, at an index. -/
theorem pay5_at (r : Fin 512) (j : Fin 1024) :
    k0_pay5 (k0_pay86 x0 x1 x2 x3 x4 x5 x6 x7 x8 x9) (View.ld x6 r0_5) (View.ld x5 r0_4) (View.ld x4 r0_4) (ix2 r j)
      = feat x0 x1 x2 x3 x4 x5 x6 x7 r j := by
  refine (Block.feat_at _ _ _ _ r j).trans ?_
  unfold k0_pay86
  rw [Block.norm_at]
  have e : ∀ j, _ = _ := pay2_at x0 x1 x2 x3 x7 r
  simp only [e]
  have e6 : View.ld x6 r0_5 = x6 := View.ld_unit_zero off2 _ x6
  have e5 : View.ld x5 r0_4 = x5 := View.ld_unit_zero off3 _ x5
  have e4 : View.ld x4 r0_4 = x4 := View.ld_unit_zero off3 _ x4
  rw [e6, e5, e4]
  rfl

/-- The block of the features a point leaves, at an index. -/
theorem out11_at (r : Fin 512) (j : Fin 1024) :
    out0_11 x0 x1 x2 x3 x4 x5 x6 x7 x8 x9 (ix3 0 r j) = feat x0 x1 x2 x3 x4 x5 x6 x7 r j := by
  unfold out0_11
  rw [View.canon_unit_zero off3]
  exact (Block.feat6_at _ _ _ _ r j).trans (pay5_at x0 x1 x2 x3 x4 x5 x6 x7 x8 x9 r j)

end Blocks

section Arrays

variable (m : (ℓ : Loc nD τ sig) → Buf (Elt Ideal) ℓ) (c : Dev nD)

/-- The array indices of the windows' blocks, over the point. -/
theorem idx0 (t : Fin cfg0.N) : win0_0.index t = ![t.val / 32, 0, t.val % 32] :=
  (by decide +kernel : ∀ t : Fin grid0.N, win0_0.index t = ![t.val / 32, 0, t.val % 32]) t
theorem idx1 (t : Fin cfg0.N) : win0_1.index t = ![t.val / 32, t.val % 32, 0] :=
  (by decide +kernel : ∀ t : Fin grid0.N, win0_1.index t = ![t.val / 32, t.val % 32, 0]) t
theorem idx2 (t : Fin cfg0.N) : win0_2.index t = ![t.val / 32, t.val % 32, 0] :=
  (by decide +kernel : ∀ t : Fin grid0.N, win0_2.index t = ![t.val / 32, t.val % 32, 0]) t
theorem idx3 (t : Fin cfg0.N) : win0_3.index t = ![t.val / 32, 0, 0] :=
  (by decide +kernel : ∀ t : Fin grid0.N, win0_3.index t = ![t.val / 32, 0, 0]) t
theorem idx4 (t : Fin cfg0.N) : win0_4.index t = ![t.val / 32, 0, 0] :=
  (by decide +kernel : ∀ t : Fin grid0.N, win0_4.index t = ![t.val / 32, 0, 0]) t
theorem idx5 (t : Fin cfg0.N) : win0_5.index t = ![t.val / 32, 0, 0] :=
  (by decide +kernel : ∀ t : Fin grid0.N, win0_5.index t = ![t.val / 32, 0, 0]) t
theorem idx6 (t : Fin cfg0.N) : win0_6.index t = ![0, 0] :=
  (by decide +kernel : ∀ t : Fin grid0.N, win0_6.index t = ![0, 0]) t
theorem idx7 (t : Fin cfg0.N) : win0_7.index t = ![0, 0] :=
  (by decide +kernel : ∀ t : Fin grid0.N, win0_7.index t = ![0, 0]) t
theorem idx10 (t : Fin cfg0.N) : win0_10.index t = ![t.val / 32, t.val % 32, 0] :=
  (by decide +kernel : ∀ t : Fin grid0.N, win0_10.index t = ![t.val / 32, t.val % 32, 0]) t
theorem idx11 (t : Fin cfg0.N) : win0_11.index t = ![t.val / 32, t.val % 32, 0] :=
  (by decide +kernel : ∀ t : Fin grid0.N, win0_11.index t = ![t.val / 32, t.val % 32, 0]) t

/-- The arrays the call reads, at an index, over the arguments. -/
theorem ent0 (b : Fin 2) (i : Fin 16384) (k : Fin 512) : V m c main_v3 (ix3 b k i) = m (c.tc.loc main_arg0) (ix3 b i k) := by
  unfold V
  after_reads_at
theorem ent1 (b : Fin 2) (i : Fin 16384) (k : Fin 512) : V m c main_v4 (ix3 b i k) = m (c.tc.loc main_arg1) (ix3 b i k) := by
  unfold V
  after_reads_at
theorem ent3 (b : Fin 2) (j : Fin 1024) : V m c main_v6 (ix3 b 0 j) = m (c.tc.loc main_arg3) (ix2 b ⟨2048 + j.val, by omega⟩) := by
  unfold V
  after_reads_at
theorem ent4 (b : Fin 2) (j : Fin 1024) : V m c main_v8 (ix3 b 0 j) = m (c.tc.loc main_arg3) (ix2 b ⟨3072 + j.val, by omega⟩) := by
  unfold V
  after_reads_at
theorem ent5 (b : Fin 2) (j : Fin 1024) : V m c main_v10 (ix3 b 0 j) = m (c.tc.loc main_arg3) (ix2 b ⟨4096 + j.val, by omega⟩) := by
  unfold V
  after_reads_at
theorem ent6 (j : Fin 1024) : V m c main_v0 (ix2 0 j) = m (c.tc.loc main_arg4) (ix1 j) := by
  unfold V
  after_reads_at
theorem ent7 (k j : Fin 1024) : V m c main_v1 (ix2 k j) = m (c.tc.loc main_arg5) (ix2 k j) := by
  unfold V
  after_reads_at

/-- A point's residual stream is the reference's, at the point's batch and rows. -/
theorem mid_eq (b : Fin 2) (i : Fin 16384) (r : Fin 512) (x0 x1 : Vec Ideal S1x512x512 .bf16) (x2 : Vec Ideal S1x512x1024 .f32) (x3 : Vec Ideal S1x1x1024 .f32)
    (x7 : Vec Ideal S1024x1024 .bf16)
    (o z : FVec Ideal Cert.Reference2Ideal.S2x16384x512 .f32) (x : FVec Ideal Cert.Reference2Ideal.S2x16384x1024 .f32)
    (md : FVec Ideal Cert.Reference2Ideal.S2x6144 .f32) (w : FVec Ideal Cert.Reference2Ideal.S1024x1024 .f32)
    (h0 : ∀ k, x0 (ix3 0 k r) = o (ix3 b i k)) (h1 : ∀ k, x1 (ix3 0 r k) = z (ix3 b i k))
    (h2 : ∀ j, x2 (ix3 0 r j) = x (ix3 b i j)) (h3 : ∀ j : Fin 1024, x3 (ix3 0 0 j) = md (ix2 b ⟨2048 + j.val, by omega⟩))
    (h7 : ∀ k j, x7 (ix2 k j) = w (ix2 k j)) (j : Fin 1024) :
    mid x0 x1 x2 x3 x7 r j = Cert.Post.mid o z x md w b i j := by
  unfold mid Cert.Post.mid
  rw [h2, h3]
  refine congrArg (fun s : EReal => x (ix3 b i j) + md (ix2 b ⟨2048 + j.val, by omega⟩) * s) (Finset.sum_congr rfl fun k _ => ?_)
  refine congrArg₂ (fun x y : EReal => x * y) ?_ (h7 k j)
  unfold cat Cert.Post.cat
  by_cases hk : k.val < 512
  · rw [dif_pos hk, dif_pos hk, h0]
  · rw [dif_neg hk, dif_neg hk, h1]

/-- A point's features are the reference's, at the point's batch and rows. -/
theorem feat_eq (b : Fin 2) (i : Fin 16384) (r : Fin 512) (x0 x1 : Vec Ideal S1x512x512 .bf16) (x2 : Vec Ideal S1x512x1024 .f32) (x3 x4 x5 : Vec Ideal S1x1x1024 .f32)
    (x6 : Vec Ideal S1x1024 .f32) (x7 : Vec Ideal S1024x1024 .bf16)
    (o z : FVec Ideal Cert.Reference2Ideal.S2x16384x512 .f32) (x : FVec Ideal Cert.Reference2Ideal.S2x16384x1024 .f32)
    (md : FVec Ideal Cert.Reference2Ideal.S2x6144 .f32) (gn : FVec Ideal Cert.Reference2Ideal.S1024 .f32)
    (w : FVec Ideal Cert.Reference2Ideal.S1024x1024 .f32)
    (hm : ∀ j, mid x0 x1 x2 x3 x7 r j = Cert.Post.mid o z x md w b i j)
    (h4 : ∀ j : Fin 1024, x4 (ix3 0 0 j) = md (ix2 b ⟨3072 + j.val, by omega⟩))
    (h5 : ∀ j : Fin 1024, x5 (ix3 0 0 j) = md (ix2 b ⟨4096 + j.val, by omega⟩))
    (h6 : ∀ j : Fin 1024, x6 (ix2 0 j) = gn (ix1 j)) (j : Fin 1024) :
    feat x0 x1 x2 x3 x4 x5 x6 x7 r j = Cert.Post.feat o z x md gn w b i j := by
  unfold feat
  rw [h4, h5, h6]
  exact Cert.Reference2Ideal.At.feat_of_mid o z x md gn w b i j _ hm

theorem batch_lt (t : Fin cfg0.N) : t.val / 32 < 2 := by have := lt_of_lt_of_eq t.isLt N_0; omega
theorem row_lt (t : Fin cfg0.N) (r : Fin 512) : 512 * (t.val % 32) + r.val < 16384 := by omega

variable (t : Fin cfg0.N) (b : Fin 2) (i : Fin 16384) (r : Fin 512) (hb : t.val / 32 = b.val) (hi : 512 * (t.val % 32) + r.val = i.val)

include hb hi in
/-- A point's block of the attention's output. -/
theorem blk0 (X : Buf (Elt Ideal) (c.tc.loc main_v3 : Loc nD τ sig)) (k : Fin 512) :
    View.read (Elt Ideal) ((cfg0.win 0).blk t).view X (ix3 0 k r : S1x512x512.Idx) = X (ix3 b k i) := by
  obtain rfl : b = ⟨t.val / 32, batch_lt t⟩ := Fin.ext hb.symm
  obtain rfl : i = ⟨512 * (t.val % 32) + r.val, row_lt t r⟩ := Fin.ext hi.symm
  blk_ext [idx0 t]

include hb hi in
/-- A point's block of the Fourier branch's output. -/
theorem blk1 (X : Buf (Elt Ideal) (c.tc.loc main_v4 : Loc nD τ sig)) (k : Fin 512) :
    View.read (Elt Ideal) ((cfg0.win 1).blk t).view X (ix3 0 r k : S1x512x512.Idx) = X (ix3 b i k) := by
  obtain rfl : b = ⟨t.val / 32, batch_lt t⟩ := Fin.ext hb.symm
  obtain rfl : i = ⟨512 * (t.val % 32) + r.val, row_lt t r⟩ := Fin.ext hi.symm
  blk_ext [idx1 t]

include hb hi in
/-- A point's block of the layer's input. -/
theorem blk2 (X : Buf (Elt Ideal) (c.tc.loc main_arg2 : Loc nD τ sig)) (j : Fin 1024) :
    View.read (Elt Ideal) ((cfg0.win 2).blk t).view X (ix3 0 r j : S1x512x1024.Idx) = X (ix3 b i j) := by
  obtain rfl : b = ⟨t.val / 32, batch_lt t⟩ := Fin.ext hb.symm
  obtain rfl : i = ⟨512 * (t.val % 32) + r.val, row_lt t r⟩ := Fin.ext hi.symm
  blk_ext [idx2 t]

include hb in
/-- A point's block of the gate. -/
theorem blk3 (X : Buf (Elt Ideal) (c.tc.loc main_v6 : Loc nD τ sig)) (j : Fin 1024) :
    View.read (Elt Ideal) ((cfg0.win 3).blk t).view X (ix3 0 0 j : S1x1x1024.Idx) = X (ix3 b 0 j) := by
  obtain rfl : b = ⟨t.val / 32, batch_lt t⟩ := Fin.ext hb.symm
  blk_ext [idx3 t]

include hb in
/-- A point's block of the shift. -/
theorem blk4 (X : Buf (Elt Ideal) (c.tc.loc main_v8 : Loc nD τ sig)) (j : Fin 1024) :
    View.read (Elt Ideal) ((cfg0.win 4).blk t).view X (ix3 0 0 j : S1x1x1024.Idx) = X (ix3 b 0 j) := by
  obtain rfl : b = ⟨t.val / 32, batch_lt t⟩ := Fin.ext hb.symm
  blk_ext [idx4 t]

include hb in
/-- A point's block of the scale. -/
theorem blk5 (X : Buf (Elt Ideal) (c.tc.loc main_v10 : Loc nD τ sig)) (j : Fin 1024) :
    View.read (Elt Ideal) ((cfg0.win 5).blk t).view X (ix3 0 0 j : S1x1x1024.Idx) = X (ix3 b 0 j) := by
  obtain rfl : b = ⟨t.val / 32, batch_lt t⟩ := Fin.ext hb.symm
  blk_ext [idx5 t]

/-- A point's block of the norm's weights. -/
theorem blk6 (X : Buf (Elt Ideal) (c.tc.loc main_v0 : Loc nD τ sig)) (j : Fin 1024) :
    View.read (Elt Ideal) ((cfg0.win 6).blk t).view X (ix2 0 j : S1x1024.Idx) = X (ix2 0 j) := by
  blk_ext [idx6 t]

/-- A point's block of the projection's weights. -/
theorem blk7 (X : Buf (Elt Ideal) (c.tc.loc main_v1 : Loc nD τ sig)) (k j : Fin 1024) :
    View.read (Elt Ideal) ((cfg0.win 7).blk t).view X (ix2 k j : S1024x1024.Idx) = X (ix2 k j) := by
  blk_ext [idx7 t]

include hb hi in
/-- A point's block of the first result. -/
theorem blk10 (X : Buf (Elt Ideal) (c.tc.loc main_v13_0 : Loc nD τ sig)) (j : Fin 1024) :
    View.read (Elt Ideal) ((cfg0.win 10).blk t).view X (ix3 0 r j : S1x512x1024.Idx) = X (ix3 b i j) := by
  obtain rfl : b = ⟨t.val / 32, batch_lt t⟩ := Fin.ext hb.symm
  obtain rfl : i = ⟨512 * (t.val % 32) + r.val, row_lt t r⟩ := Fin.ext hi.symm
  blk_ext [idx10 t]

include hb hi in
/-- A point's block of the second result. -/
theorem blk11 (X : Buf (Elt Ideal) (c.tc.loc main_v13_1 : Loc nD τ sig)) (j : Fin 1024) :
    View.read (Elt Ideal) ((cfg0.win 11).blk t).view X (ix3 0 r j : S1x512x1024.Idx) = X (ix3 b i j) := by
  obtain rfl : b = ⟨t.val / 32, batch_lt t⟩ := Fin.ext hb.symm
  obtain rfl : i = ⟨512 * (t.val % 32) + r.val, row_lt t r⟩ := Fin.ext hi.symm
  blk_ext [idx11 t]

include hb hi in
/-- A point's residual stream, over the arguments. -/
theorem point_mid (j : Fin 1024) :
    mid (iblk m c 0 t) (iblk m c 1 t) (iblk m c 2 t) (iblk m c 3 t) (iblk m c 7 t) r j
      = Cert.Post.mid (m (c.tc.loc main_arg0)) (m (c.tc.loc main_arg1)) (m (c.tc.loc main_arg2)) (m (c.tc.loc main_arg3))
          (m (c.tc.loc main_arg5)) b i j :=
  mid_eq b i r _ _ _ _ _ _ _ _ _ _
    (fun k => (blk0 c t b i r hb hi (V m c main_v3) k).trans (ent0 m c b i k))
    (fun k => (blk1 c t b i r hb hi (V m c main_v4) k).trans (ent1 m c b i k))
    (fun j => (blk2 c t b i r hb hi (V m c main_arg2) j).trans (congrFun (V_main_arg2 m c) _))
    (fun j => (blk3 c t b hb (V m c main_v6) j).trans (ent3 m c b j))
    (fun k j => (blk7 c t (V m c main_v1) k j).trans (ent7 m c k j)) j

include hb hi in
/-- A point's features, over the arguments. -/
theorem point_feat (j : Fin 1024) :
    feat (iblk m c 0 t) (iblk m c 1 t) (iblk m c 2 t) (iblk m c 3 t) (iblk m c 4 t) (iblk m c 5 t) (iblk m c 6 t) (iblk m c 7 t) r j
      = Cert.Post.feat (m (c.tc.loc main_arg0)) (m (c.tc.loc main_arg1)) (m (c.tc.loc main_arg2)) (m (c.tc.loc main_arg3))
          (m (c.tc.loc main_arg4)) (m (c.tc.loc main_arg5)) b i j :=
  feat_eq b i r _ _ _ _ _ _ _ _ _ _ _ _ _ _ (point_mid m c t b i r hb hi)
    (fun j => (blk4 c t b hb (V m c main_v8) j).trans (ent4 m c b j))
    (fun j => (blk5 c t b hb (V m c main_v10) j).trans (ent5 m c b j))
    (fun j => (blk6 c t (V m c main_v0) j).trans (ent6 m c j)) j

/-- The point that computes a batch's row. -/
theorem point_of (b : Fin 2) (i : Fin 16384) : ∃ (t : Fin cfg0.N) (r : Fin 512), t.val / 32 = b.val ∧ 512 * (t.val % 32) + r.val = i.val :=
  ⟨⟨32 * b.val + i.val / 512, lt_of_lt_of_eq (show _ < 64 by omega) N_0.symm⟩, ⟨i.val % 512, by omega⟩,
    show (32 * b.val + i.val / 512) / 32 = b.val by omega, show 512 * ((32 * b.val + i.val / 512) % 32) + i.val % 512 = i.val by omega⟩

/-- The first result's array after the run, at an index. -/
theorem array10_at (b : Fin 2) (i : Fin 16384) (j : Fin 1024) :
    (dats m 0 c).arrAt 10 cfg0.N (ix3 b i j)
      = Cert.Post.mid (m (c.tc.loc main_arg0)) (m (c.tc.loc main_arg1)) (m (c.tc.loc main_arg2)) (m (c.tc.loc main_arg3))
          (m (c.tc.loc main_arg5)) b i j := by
  obtain ⟨t, r, hb, hi⟩ := point_of b i
  refine (blk10 c t b i r hb hi _ j).symm.trans ?_
  refine (congrFun ((Value.blocks10 m c t (flush0_10 t)).trans (Value.flushed10 m c t)) (ix3 0 r j)).trans ?_
  exact (out10_at _ _ _ _ _ _ _ _ _ _ r j).trans (point_mid m c t b i r hb hi j)

/-- The second result's array after the run, at an index. -/
theorem array11_at (b : Fin 2) (i : Fin 16384) (j : Fin 1024) :
    (dats m 0 c).arrAt 11 cfg0.N (ix3 b i j)
      = Cert.Post.feat (m (c.tc.loc main_arg0)) (m (c.tc.loc main_arg1)) (m (c.tc.loc main_arg2)) (m (c.tc.loc main_arg3))
          (m (c.tc.loc main_arg4)) (m (c.tc.loc main_arg5)) b i j := by
  obtain ⟨t, r, hb, hi⟩ := point_of b i
  refine (blk11 c t b i r hb hi _ j).symm.trans ?_
  refine (congrFun ((Value.blocks11 m c t (flush0_11 t)).trans (Value.flushed11 m c t)) (ix3 0 r j)).trans ?_
  exact (out11_at _ _ _ _ _ _ _ _ _ _ r j).trans (point_feat m c t b i r hb hi j)

end Arrays

end Cert.Kernel2Ideal.Point
-- ==== Proof.Finite.lean ====
module

public import proofs.«01_k».proof.Defs
public import Idealize.ShloMosaic.Lib.ReduceAll
public import Idealize.ShloMosaic.PureOps.Ideal

/-! What the precondition says: every query and every key is a real number. -/

@[expose] public section

set_option maxRecDepth 16384

noncomputable section

namespace Cert.Finite

open Idealize.ShloMosaic

/-- The precondition's side conditions. -/
theorem facts : Cert.Pre_finite_scores.Facts where
  bcast_S_S2x16384x8x96 := by decide
  reducesTo_S2x16384x8x96_S_d0_1_2_3 := by decide
  h_S_ := by decide
  bcast_S_S2x256x8x96 := by decide
  reducesTo_S2x256x8x96_S_d0_1_2_3 := by decide

/-- An absolute value below the infinity belongs to a real number. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

instance : Subsingleton (Cert.Pre_finite_scores.S_).Idx := ⟨fun a b => funext fun k => k.elim0⟩

variable [Cert.Pre_finite_scores.Facts]

open Cert.Pre_finite_scores in
/-- The precondition, read: the queries and both key arrays hold real numbers. -/
theorem reals (a0 : FVec Ideal S2x16384x8x96 .f32) (a1 : FVec Ideal S2x256x8x96 .f32) (a2 : FVec Ideal S2x16384x8x96 .f32)
    (a3 : FVec Ideal S2x256x8x64 .f32) (a4 : FVec Ideal S2x16384x8x64 .f32)
    (h : fn (F := Ideal) a0 a1 a2 a3 a4 = fun _ => 1#1) :
    ((∀ j, ∃ r : ℝ, a0 j = (r : EReal)) ∧ ∀ j, ∃ r : ℝ, a1 j = (r : EReal)) ∧ ∀ j, ∃ r : ℝ, a2 j = (r : EReal) := by
  have hj := congrFun h (fun k => k.elim0)
  obtain ⟨h01, h2⟩ := IntOp.andi_eq_one.1 hj
  obtain ⟨h0, h1⟩ := IntOp.andi_eq_one.1 h01
  exact ⟨⟨fun j => real_of_lt _ (Host.reduce_andi_all _ _ _ _ _ h0 j), fun j => real_of_lt _ (Host.reduce_andi_all _ _ _ _ _ h1 j)⟩,
    fun j => real_of_lt _ (Host.reduce_andi_all _ _ _ _ _ h2 j)⟩

end Cert.Finite
-- ==== Proof.Route.lean ====
module

public import Idealize.ShloMosaic.Lib.SortFacts
public import Idealize.ShloMosaic.PureOps.Ideal
public import Mathlib.Data.EReal.Inv

/-! Choosing the largest two of four extended reals: by a stable sort, as the third reference does, and by comparisons, as the
    kernel does. -/

@[expose] public section

noncomputable section

namespace Cert.Route

open Idealize.ShloMosaic

/-- The position that a stable sort by decreasing value puts at place `k`. -/
def place (f : Fin 4 → EReal) (k : Fin 4) : Fin 4 :=
  sortedFrom (fun a b => Ideal.cmp .ogt (f a) (f b) == 1#1) k

/-- Position `a` comes before position `b`: a larger value, or an equal one at an earlier position. -/
def Ahead (f : Fin 4 → EReal) (a b : Fin 4) : Prop := f b < f a ∨ (f a = f b ∧ a < b)

instance (f : Fin 4 → EReal) (a b : Fin 4) : Decidable (Ahead f a b) := Classical.propDecidable _

theorem ahead_asymm (f : Fin 4 → EReal) (a b : Fin 4) (h : Ahead f a b) : ¬ Ahead f b a := by
  rintro (h1 | ⟨h1, h2⟩) <;> rcases h with h | ⟨h, h3⟩
  · exact lt_asymm h h1
  · exact absurd h (ne_of_lt h1)
  · exact absurd h1 (ne_of_lt h)
  · exact lt_asymm h2 h3

theorem ahead_total (f : Fin 4 → EReal) (a b : Fin 4) (hne : a ≠ b) (h : ¬ Ahead f a b) : Ahead f b a := by
  rcases lt_trichotomy (f a) (f b) with h1 | h1 | h1
  · exact .inl h1
  · rcases lt_trichotomy a b with h2 | h2 | h2
    · exact absurd (.inr ⟨h1, h2⟩) h
    · exact absurd h2 hne
    · exact .inr ⟨h1.symm, h2⟩
  · exact absurd (.inl h1) h

theorem not_ahead_trans (f : Fin 4 → EReal) (a b c : Fin 4) (h1 : ¬ Ahead f a b) (h2 : ¬ Ahead f b c) : ¬ Ahead f a c := by
  unfold Ahead at *
  push Not at *
  refine ⟨h1.1.trans h2.1, fun e => ?_⟩
  have e1 : f a = f b := le_antisymm h1.1 (e ▸ h2.1)
  have e2 : f b = f c := e1.symm.trans e
  exact (h2.2 e2).trans (h1.2 e1)

/-- On positions in increasing order, the sort by value alone is the sort that breaks ties by position. -/
theorem sort_ties (f : Fin 4 → EReal) (l : List (Fin 4)) (hl : l.Pairwise (· < ·)) :
    stableSort (fun a b => Ideal.cmp .ogt (f a) (f b) == 1#1) l = stableSort (fun a b => decide (Ahead f a b)) l := by
  induction l with
  | nil => rfl
  | cons a l ih =>
    obtain ⟨ha, hl'⟩ := List.pairwise_cons.mp hl
    unfold stableSort
    rw [ih hl']
    refine insertBefore_congr _ _ a _ fun b hb => ?_
    have hab : a < b := ha b ((perm_stableSort _ l).mem_iff.mp hb)
    rw [Bool.eq_iff_iff, decide_eq_true_iff]
    have hn : ¬ b < a := not_lt.mpr hab.le
    simp only [Ideal.cmp, Ahead, hn, and_false, or_false, beq_iff_eq]
    by_cases h : f a < f b <;> simp [h]

theorem place_eq (f : Fin 4 → EReal) (k : Fin 4) : place f k = sortedFrom (fun a b => decide (Ahead f a b)) k := by
  unfold place sortedFrom
  rw [List.get_of_eq (show sortPositions 4 _ = sortPositions 4 _ from sort_ties f (List.finRange 4) (List.pairwise_lt_finRange 4))]
  rfl

/-- No later place holds a position that comes before an earlier place's. -/
theorem place_sorted (f : Fin 4 → EReal) (i j : Fin 4) (hij : i < j) : ¬ Ahead f (place f j) (place f i) := by
  rw [place_eq, place_eq]
  have h := sortedFrom_noInversion (fun a b => decide (Ahead f a b)) (fun a b => decide (Ahead f a b))
    (fun a b h => decide_eq_false (ahead_asymm f a b (of_decide_eq_true h))) (fun a b h => h)
    (fun a b c h1 h2 => decide_eq_false (not_ahead_trans f a b c (of_decide_eq_false h1) (of_decide_eq_false h2))) i j hij
  exact of_decide_eq_false h

theorem place_injective (f : Fin 4 → EReal) : Function.Injective (place f) := sortedFrom_injective _
theorem place_surjective (f : Fin 4 → EReal) : Function.Surjective (place f) := sortedFrom_surjective _

/-- `p` is the first and `q` the second of four values, in decreasing order, ties by position. -/
structure Top2 (f : Fin 4 → EReal) (p q : Fin 4) : Prop where
  ne : p ≠ q
  pq : Ahead f p q
  rest : ∀ x, x ≠ p → x ≠ q → Ahead f p x ∧ Ahead f q x

theorem top2_place (f : Fin 4 → EReal) : Top2 f (place f 0) (place f 1) := by
  have hne : place f 0 ≠ place f 1 := fun h => absurd (place_injective f h) (by decide)
  refine ⟨hne, ahead_total f _ _ hne.symm (place_sorted f 0 1 (by decide)), fun x hp hq => ?_⟩
  obtain ⟨k, rfl⟩ := place_surjective f x
  have h0 : 0 < k := by rcases Fin.eq_zero_or_eq_succ k with h | ⟨j, h⟩ <;> [exact absurd (h ▸ rfl) hp; exact h ▸ Fin.succ_pos j]
  have h1 : 1 < k := lt_of_le_of_ne (by omega) (fun h => hq (h ▸ rfl))
  exact ⟨ahead_total f _ _ hp (place_sorted f 0 k h0), ahead_total f _ _ hq (place_sorted f 1 k h1)⟩

/-- The largest plus the second largest of four, by maxima and minima. -/
def top (a b c d : EReal) : EReal := max (max a b) (max c d) + max (min (max a b) (max c d)) (max (min a b) (min c d))

theorem le_of_ahead {f : Fin 4 → EReal} {a b : Fin 4} (h : Ahead f a b) : f b ≤ f a := by
  rcases h with h | ⟨h, -⟩
  · exact h.le
  · exact h.ge

theorem top_eq (f : Fin 4 → EReal) (p q : Fin 4) (h : Top2 f p q) : top (f 0) (f 1) (f 2) (f 3) = f p + f q := by
  have hpq := le_of_ahead h.pq
  have hr : ∀ x, x ≠ p → x ≠ q → f x ≤ f q := fun x a b => le_of_ahead (h.rest x a b).2
  have hne := h.ne
  have h0 := hr 0
  have h1 := hr 1
  have h2 := hr 2
  have h3 := hr 3
  clear h hr
  unfold top
  refine congrArg₂ (· + ·) ?_ ?_
  all_goals
    fin_cases p <;> fin_cases q <;> first
      | exact absurd rfl hne
      | (simp at h0 h1 h2 h3 hpq; grind)

/-! ## The comparisons -/

/-- One where value `x` comes before value `y`, ties by the bit `t`; else zero. -/
def before (x y : EReal) (t : BitVec 1) : BitVec 32 :=
  BitVec.setWidth 32 (IntOp.ori (BitVec.ofBool (decide (y < x))) (IntOp.andi (BitVec.ofBool (decide (x = y))) t))

/-- The value where the rank is below two, else zero. -/
def keep (rank : BitVec 32) (v : EReal) : EReal := Scalar.select (IntOp.cmpi .slt rank 2#32) v 0

/-- The rank of each of four values: how many come before it. -/
def rank (a b c d : EReal) : Fin 4 → BitVec 32
  | 0 => IntOp.addi (IntOp.addi (IntOp.addi 0#32 (before b a 0#1)) (before c a 0#1)) (before d a 0#1)
  | 1 => IntOp.addi (IntOp.addi (IntOp.addi 0#32 (before a b 1#1)) (before c b 0#1)) (before d b 0#1)
  | 2 => IntOp.addi (IntOp.addi (IntOp.addi 0#32 (before a c 1#1)) (before b c 1#1)) (before d c 0#1)
  | 3 => IntOp.addi (IntOp.addi (IntOp.addi 0#32 (before a d 1#1)) (before b d 1#1)) (before c d 1#1)

theorem before_eq (f : Fin 4 → EReal) (a b : Fin 4) (t : BitVec 1) (ht : t = BitVec.ofBool (decide (a < b))) :
    before (f a) (f b) t = if Ahead f a b then 1#32 else 0#32 := by
  subst ht
  unfold before Ahead
  by_cases h1 : f b < f a <;> by_cases h2 : f a = f b <;> by_cases h3 : a < b <;> simp [h1, h2, h3] <;> rfl

/-- One where the relation holds, else zero. -/
def bit (P : Prop) [Decidable P] : BitVec 32 := if P then 1#32 else 0#32

theorem keep_bits (b c d : Prop) [Decidable b] [Decidable c] [Decidable d] (v : EReal) :
    keep (IntOp.addi (IntOp.addi (IntOp.addi 0#32 (bit b)) (bit c)) (bit d)) v =
      if (b ∧ c) ∨ (b ∧ d) ∨ (c ∧ d) then 0 else v := by
  unfold keep bit
  by_cases hb : b <;> by_cases hc : c <;> by_cases hd : d <;> simp only [hb, hc, hd, if_true, if_false, and_self, and_true, and_false, true_and, false_and, or_self, or_true, or_false, true_or, false_or] <;> rfl

/-- The rank is below two for the first and the second alone. -/
theorem keep_rank (f : Fin 4 → EReal) (p q : Fin 4) (h : Top2 f p q) (i : Fin 4) (v : EReal) :
    keep (rank (f 0) (f 1) (f 2) (f 3) i) v = if i = p ∨ i = q then v else 0 := by
  have hp : ∀ x, x ≠ p → Ahead f p x := fun x hx => by
    by_cases hq : x = q
    · exact hq ▸ h.pq
    · exact (h.rest x hx hq).1
  have hp' : ∀ x, x ≠ p → ¬ Ahead f x p := fun x hx => ahead_asymm f _ _ (hp x hx)
  have hq : ∀ x, x ≠ p → x ≠ q → Ahead f q x := fun x hx hy => (h.rest x hx hy).2
  have hq' : ∀ x, x ≠ p → x ≠ q → ¬ Ahead f x q := fun x hx hy => ahead_asymm f _ _ (hq x hx hy)
  have hne := h.ne
  clear h
  have e : ∀ a b t, t = BitVec.ofBool (decide (a < b)) → before (f a) (f b) t = bit (Ahead f a b) :=
    before_eq f
  have h1 : keep (rank (f 0) (f 1) (f 2) (f 3) i) v =
      if ∃ x y, x ≠ y ∧ x ≠ i ∧ y ≠ i ∧ Ahead f x i ∧ Ahead f y i then 0 else v := by
    fin_cases i <;> simp only [rank, Fin.isValue, Fin.zero_eta, Fin.mk_one, Fin.reduceFinMk] <;>
      rw [e _ _ _ (by decide), e _ _ _ (by decide), e _ _ _ (by decide), keep_bits] <;> clear e hp hp' hq hq' hne <;>
      refine if_congr ?_ rfl rfl <;> simp [Fin.exists_fin_succ] <;> tauto
  rw [h1]
  clear e h1
  by_cases hip : i = p
  · subst hip
    rw [if_neg, if_pos (Or.inl rfl)]
    rintro ⟨x, y, -, hx, -, hax, -⟩
    exact hp' x hx hax
  · by_cases hiq : i = q
    · subst hiq
      rw [if_neg, if_pos (Or.inr rfl)]
      rintro ⟨x, y, hxy, hx, hy, hax, hay⟩
      by_cases hxp : x = p
      · exact hq' y (fun hyp => hxy (hxp.trans hyp.symm)) hy hay
      · exact hq' x hxp hx hax
    · rw [if_pos ⟨p, q, hne, Ne.symm hip, Ne.symm hiq, hp i hip, hq i hip hiq⟩, if_neg]
      rintro (h | h)
      · exact hip h
      · exact hiq h

/-- The group the comparisons choose: the first of the largest. -/
def best (g0 g1 g2 g3 : EReal) : BitVec 32 :=
  if (if (if g0 < g1 then g1 else g0) < g2 then g2 else if g0 < g1 then g1 else g0) < g3 then 3#32
  else if (if g0 < g1 then g1 else g0) < g2 then 2#32 else if g0 < g1 then 1#32 else 0#32

theorem best_eq (f : Fin 4 → EReal) (p q : Fin 4) (h : Top2 f p q) : best (f 0) (f 1) (f 2) (f 3) = BitVec.ofNat 32 p.val := by
  have hp : ∀ x, x ≠ p → Ahead f p x := fun x hx => by
    by_cases hq : x = q
    · exact hq ▸ h.pq
    · exact (h.rest x hx hq).1
  clear h
  have h0 := hp 0
  have h1 := hp 1
  have h2 := hp 2
  have h3 := hp 3
  clear hp
  unfold best
  unfold Ahead at *
  fin_cases p <;> simp at h0 h1 h2 h3 ⊢ <;> grind

/-- The entry of the group chosen. -/
def pick (g : BitVec 32) (a b c d : EReal) : EReal :=
  Scalar.select (IntOp.cmpi .eq g 3#32) d (Scalar.select (IntOp.cmpi .eq g 2#32) c (Scalar.select (IntOp.cmpi .eq g 1#32) b a))

theorem pick_eq (f : Fin 4 → EReal) (p : Fin 4) : pick (BitVec.ofNat 32 p.val) (f 0) (f 1) (f 2) (f 3) = f p := by
  fin_cases p <;> rfl

/-- A row of the table: the four weights twice, the group, then zeros. -/
def row (e : Fin 16) (w0 w1 w2 w3 : EReal) (g : BitVec 32) : EReal :=
  Scalar.select (IntOp.ori (IntOp.cmpi .eq (BitVec.ofNat 32 e.val) 3#32) (IntOp.cmpi .eq (BitVec.ofNat 32 e.val) 7#32)) w3
    (Scalar.select (IntOp.ori (IntOp.cmpi .eq (BitVec.ofNat 32 e.val) 2#32) (IntOp.cmpi .eq (BitVec.ofNat 32 e.val) 6#32)) w2
      (Scalar.select (IntOp.ori (IntOp.cmpi .eq (BitVec.ofNat 32 e.val) 1#32) (IntOp.cmpi .eq (BitVec.ofNat 32 e.val) 5#32)) w1
        (Scalar.select (IntOp.ori (IntOp.cmpi .eq (BitVec.ofNat 32 e.val) 0#32) (IntOp.cmpi .eq (BitVec.ofNat 32 e.val) 4#32)) w0
          (Scalar.select (IntOp.cmpi .eq (BitVec.ofNat 32 e.val) 8#32) (FloatOps.sitofp (F := Ideal) .f32 g) 0))))

/-! ## The routing -/

/-- The first of the groups whose two greatest biased scores have the largest sum. -/
def groupOf (β : Fin 4 → Fin 4 → EReal) : Fin 4 :=
  place (fun g => ∑ k : Fin 2, β g (place (fun e => β g e) (k.castLE (by decide)))) 0

/-- The two greatest entries of the chosen group. -/
def entryOf (β : Fin 4 → Fin 4 → EReal) (k : Fin 2) : Fin 4 := place (fun e => β (groupOf β) e) (k.castLE (by decide))

/-- A position's column of the table: the weights twice, the group, zeros. -/
def table (d : Fin 4 → EReal) (g : BitVec 32) (e : Fin 16) : EReal :=
  if h : e.val < 4 then d ⟨e.val, h⟩ else if h : e.val - 4 < 4 then d ⟨e.val - 4, h⟩
  else if _ : e.val - 4 - 4 < 1 then FloatOps.sitofp (F := Ideal) .f32 g else 0

/-- The column for scores `s` and biased scores `β`, by group and entry. -/
def routed (s β : Fin 4 → Fin 4 → EReal) (e : Fin 16) : EReal :=
  table (fun e => ∑ k : Fin 2, FloatOps.uitofp (F := Ideal) .f32 (IntOp.cmpi .eq (BitVec.ofNat 32 (entryOf β k).val) (BitVec.ofNat 32 e.val)) *
      Ideal.div (s (groupOf β) (entryOf β k)) (∑ x : Fin 2, s (groupOf β) (entryOf β x)))
    (BitVec.ofNat 32 (groupOf β).val) e

/-- Entry `e` of group `g`. -/
def at16 (g e : Fin 4) : Fin 16 := ⟨g.val * 4 + e.val, by omega⟩

/-- The column as the comparisons compute it. -/
def compared (s β : Fin 4 → Fin 4 → EReal) (e : Fin 16) : EReal :=
  let g := best (top (β 0 0) (β 0 1) (β 0 2) (β 0 3)) (top (β 1 0) (β 1 1) (β 1 2) (β 1 3)) (top (β 2 0) (β 2 1) (β 2 2) (β 2 3)) (top (β 3 0) (β 3 1) (β 3 2) (β 3 3))
  let x i := pick g (β 0 i) (β 1 i) (β 2 i) (β 3 i)
  let w i := keep (rank (x 0) (x 1) (x 2) (x 3) i) (pick g (s 0 i) (s 1 i) (s 2 i) (s 3 i))
  let inv := Ideal.div 1 ((w 0 + w 1) + (w 2 + w 3))
  row e (w 0 * inv) (w 1 * inv) (w 2 * inv) (w 3 * inv) g

theorem uitofp_one : FloatOps.uitofp (F := Ideal) .f32 1#1 = (1 : EReal) := by
  show ((((1#1 : BitVec 1).toNat : ℝ)) : EReal) = 1
  simp

theorem uitofp_zero : FloatOps.uitofp (F := Ideal) .f32 0#1 = (0 : EReal) := by
  show ((((0#1 : BitVec 1).toNat : ℝ)) : EReal) = 0
  simp

theorem uitofp_eq (a b : Fin 4) :
    FloatOps.uitofp (F := Ideal) .f32 (IntOp.cmpi .eq (BitVec.ofNat 32 a.val) (BitVec.ofNat 32 b.val)) = if b = a then 1 else 0 := by
  fin_cases a <;> fin_cases b <;> first | exact uitofp_one | exact uitofp_zero

theorem row_eq (e : Fin 16) (w : Fin 4 → EReal) (g : BitVec 32) : row e (w 0) (w 1) (w 2) (w 3) g = table w g e := by
  fin_cases e <;> rfl

theorem sum_two (v : Fin 4 → EReal) (p q : Fin 4) (hne : p ≠ q) :
    ((if (0 : Fin 4) = p ∨ 0 = q then v 0 else 0) + (if (1 : Fin 4) = p ∨ 1 = q then v 1 else 0))
      + ((if (2 : Fin 4) = p ∨ 2 = q then v 2 else 0) + (if (3 : Fin 4) = p ∨ 3 = q then v 3 else 0)) = v p + v q := by
  fin_cases p <;> fin_cases q <;> simp at hne ⊢ <;> exact add_comm _ _

/-- The comparisons choose as the sort does. -/
theorem compared_eq (s β : Fin 4 → Fin 4 → EReal) (hs : ∀ g e, 0 < s g e) (e : Fin 16) : compared s β e = routed s β e := by
  have hG : best (top (β 0 0) (β 0 1) (β 0 2) (β 0 3)) (top (β 1 0) (β 1 1) (β 1 2) (β 1 3)) (top (β 2 0) (β 2 1) (β 2 2) (β 2 3)) (top (β 3 0) (β 3 1) (β 3 2) (β 3 3))
      = BitVec.ofNat 32 (groupOf β).val := by
    rw [top_eq _ _ _ (top2_place (β 0)), top_eq _ _ _ (top2_place (β 1)), top_eq _ _ _ (top2_place (β 2)), top_eq _ _ _ (top2_place (β 3))]
    refine Eq.trans ?_ (best_eq (fun g => ∑ k : Fin 2, β g (place (fun e => β g e) (k.castLE (by decide)))) _ _ (top2_place _))
    simp only [Fin.sum_univ_two]
    rfl
  unfold compared routed
  dsimp only
  rw [hG]
  generalize hg : groupOf β = G
  have hx : ∀ i, pick (BitVec.ofNat 32 G.val) (β 0 i) (β 1 i) (β 2 i) (β 3 i) = β G i := fun i => pick_eq (fun g => β g i) G
  have hv : ∀ i, pick (BitVec.ofNat 32 G.val) (s 0 i) (s 1 i) (s 2 i) (s 3 i) = s G i := fun i => pick_eq (fun g => s g i) G
  simp only [hx, hv]
  have ht : Top2 (β G) (entryOf β 0) (entryOf β 1) := by
    have := top2_place (β G)
    unfold entryOf
    rw [hg]
    exact this
  have hk : ∀ i v, keep (rank (β G 0) (β G 1) (β G 2) (β G 3) i) v = if i = entryOf β 0 ∨ i = entryOf β 1 then v else 0 :=
    fun i v => keep_rank (β G) _ _ ht i v
  simp only [hk]
  have hne := ht.ne
  generalize entryOf β = E at *
  clear hk ht hx hv hG hg
  have hsum : ((if (0 : Fin 4) = E 0 ∨ 0 = E 1 then s G 0 else 0) + (if (1 : Fin 4) = E 0 ∨ 1 = E 1 then s G 1 else 0))
      + ((if (2 : Fin 4) = E 0 ∨ 2 = E 1 then s G 2 else 0) + (if (3 : Fin 4) = E 0 ∨ 3 = E 1 then s G 3 else 0)) = ∑ k : Fin 2, s G (E k) := by
    rw [Fin.sum_univ_two]
    exact sum_two (s G) (E 0) (E 1) hne
  rw [hsum]
  have hT : (∑ k : Fin 2, s G (E k)) ≠ 0 := by
    rw [Fin.sum_univ_two]
    exact (lt_of_lt_of_le (hs _ _) (le_add_of_nonneg_right (hs _ _).le)).ne'
  generalize (∑ k : Fin 2, s G (E k)) = T at *
  refine (row_eq e (fun i => (if i = E 0 ∨ i = E 1 then s G i else 0) * Ideal.div 1 T) _).trans ?_
  refine congrArg (fun d : Fin 4 → EReal => table d _ e) (funext fun i => ?_)
  rw [Fin.sum_univ_two, uitofp_eq, uitofp_eq]
  unfold Ideal.div
  simp only [if_neg hT, one_mul]
  by_cases h0 : i = E 0
  · subst h0
    rw [if_pos (Or.inl rfl), if_pos rfl, if_neg hne, one_mul, zero_mul, add_zero]
  · by_cases h1 : i = E 1
    · subst h1
      rw [if_pos (Or.inr rfl), if_neg h0, if_pos rfl, one_mul, zero_mul, zero_add]
    · rw [if_neg (fun h => h.elim h0 h1), if_neg h0, if_neg h1, zero_mul, zero_mul, zero_mul, add_zero]

end Cert.Route
-- ==== Proof.RouteBlock.lean ====
module

public import proofs.«01_k».proof.Proof.PostBlock
public import proofs.«01_k».proof.Proof.Route

/-! The routing table's payloads at a column of a block. -/

@[expose] public section

set_option maxRecDepth 16384

noncomputable section

namespace Cert.Kernel2Ideal.Block

open Idealize.ShloMosaic Idealize.ShloMosaic.TcCoe Idealize.ShloMosaic.Tactic
open Cert.Kernel2Ideal.Gen
open Cert.Route

/-- A block's scores at a column. -/
theorem score_at (v30 : FVec Ideal S512x1024 .f32) (v31 : Vec Ideal S1x1024 .f32) (v35 : Vec Ideal S1x1x1024 .f32) (v41 : Vec Ideal S1x1x1024 .f32) (v49 : Vec Ideal S16x1024 .f32) (e : Fin 16) (r : Fin 512) :
    k0_pay7 v30 v31 v35 v41 v49 (ix2 e r) = Ideal.logistic (∑ x : Fin 1024, v49 (ix2 e x) * k0_pay5 v30 v31 v35 v41 (ix2 r x)) := by
  unfold k0_pay7
  generalize k0_pay5 v30 v31 v35 v41 = X
  pointwise

/-- A block's biased scores at a column. -/
theorem biased_at (v30 : FVec Ideal S512x1024 .f32) (v31 : Vec Ideal S1x1024 .f32) (v35 : Vec Ideal S1x1x1024 .f32) (v41 : Vec Ideal S1x1x1024 .f32) (v49 : Vec Ideal S16x1024 .f32) (v52 : Vec Ideal S16x1 .f32) (e : Fin 16) (r : Fin 512) :
    k0_pay8 v30 v31 v35 v41 v49 v52 (ix2 e r) = k0_pay7 v30 v31 v35 v41 v49 (ix2 e r) + v52 (ix2 e 0) := by
  unfold k0_pay8
  generalize k0_pay7 v30 v31 v35 v41 v49 = X
  pointwise

/-- One row of sixteen, cut out. -/
theorem row_at (X : FVec Ideal S16x512 .f32) (k : ℕ) (hk : k < 16) (h : S16x512.Slices ![k, 0] S1x512) (r : Fin 512) :
    (extractStridedSlice S1x512 ![k, 0] X h : FVec Ideal S1x512 .f32) (ix2 0 r) = X (ix2 ⟨k, hk⟩ r) := by
  refine congrArg X (funext fun a => Fin.ext ?_)
  match a with
  | ⟨0, _⟩ => rfl
  | ⟨1, _⟩ => show 0 + r.val = r.val; omega

/-- The chosen group's row out of four. -/
theorem pick_at (G : IVec S1x512 32) (x y z w : FVec Ideal S1x512 .f32) (r : Fin 512) :
    (select (cmpi .eq G (broadcast S1x512 3#32)) w (select (cmpi .eq G (broadcast S1x512 2#32)) z
      (select (cmpi .eq G (broadcast S1x512 1#32)) y x)) : FVec Ideal S1x512 .f32) (ix2 0 r)
      = pick (G (ix2 0 r)) (x (ix2 0 r)) (y (ix2 0 r)) (z (ix2 0 r)) (w (ix2 0 r)) := by
  pointwise [pick]

/-- The first group's two greatest, added. -/
theorem pay41_at (v56 : FVec Ideal S16x512 .f32) (v73 v74 : FVec Ideal S1x512 .f32) (r : Fin 512) :
    k0_pay41 v56 v73 v74 (ix2 0 r) = top (v73 (ix2 0 r)) (v74 (ix2 0 r)) (v56 (ix2 2 r)) (v56 (ix2 3 r)) := by
  pointwise [k0_pay41, k0_pay27, k0_pay28, top]

/-- The second group's two greatest, added. -/
theorem pay42_at (v56 : FVec Ideal S16x512 .f32) (r : Fin 512) :
    k0_pay42 v56 (ix2 0 r) = top (v56 (ix2 4 r)) (v56 (ix2 5 r)) (v56 (ix2 6 r)) (v56 (ix2 7 r)) := by
  pointwise [k0_pay42, k0_pay29, k0_pay30, k0_pay31, k0_pay32, top]

/-- The third group's two greatest, added. -/
theorem pay43_at (v56 : FVec Ideal S16x512 .f32) (r : Fin 512) :
    k0_pay43 v56 (ix2 0 r) = top (v56 (ix2 8 r)) (v56 (ix2 9 r)) (v56 (ix2 10 r)) (v56 (ix2 11 r)) := by
  pointwise [k0_pay43, k0_pay33, k0_pay34, k0_pay35, k0_pay36, top]

/-- The fourth group's two greatest, added. -/
theorem pay44_at (v56 : FVec Ideal S16x512 .f32) (r : Fin 512) :
    k0_pay44 v56 (ix2 0 r) = top (v56 (ix2 12 r)) (v56 (ix2 13 r)) (v56 (ix2 14 r)) (v56 (ix2 15 r)) := by
  pointwise [k0_pay44, k0_pay37, k0_pay38, k0_pay39, k0_pay40, top]

/-- The group chosen. -/
theorem pay50_at (v56 : FVec Ideal S16x512 .f32) (v73 v74 : FVec Ideal S1x512 .f32) (r : Fin 512) :
    k0_pay50 (k0_pay43 v56) (k0_pay44 v56) (k0_pay46 v56 v73 v74) (k0_pay47 v56 v73 v74) (k0_pay48 v56 v73 v74) k0_pay49 (ix2 0 r) =
      best (k0_pay41 v56 v73 v74 (ix2 0 r)) (k0_pay42 v56 (ix2 0 r)) (k0_pay43 v56 (ix2 0 r)) (k0_pay44 v56 (ix2 0 r)) := by
  unfold k0_pay48 k0_pay46 k0_pay47 k0_pay45 k0_pay49
  generalize k0_pay41 v56 v73 v74 = a
  generalize k0_pay42 v56 = b
  generalize k0_pay43 v56 = c
  generalize k0_pay44 v56 = d
  pointwise [k0_pay50, best]

/-- The first entry's score, kept where its rank is below two. -/
theorem pay73_at (v88 : FVec Ideal S1x512 .f32) (v136 : IVec S1x512 32) (v147 v148 v159 v171 v179 v183 : FVec Ideal S1x512 .f32) (r : Fin 512) (h : k0_pay71 v88 v136 v179 = v183) :
    k0_pay73 v88 v136 v147 v148 v159 v171 v179 (ix2 0 r) = keep (rank (v147 (ix2 0 r)) (v159 (ix2 0 r)) (v171 (ix2 0 r)) (v183 (ix2 0 r)) 0) (v148 (ix2 0 r)) := by
  unfold k0_pay73
  rw [h]
  pointwise [keep, rank, before]

/-- The second entry's score, kept where its rank is below two. -/
theorem pay78_at (v88 : FVec Ideal S1x512 .f32) (v136 : IVec S1x512 32) (v147 v159 v160 v171 v179 v183 : FVec Ideal S1x512 .f32) (r : Fin 512) (h : k0_pay71 v88 v136 v179 = v183) :
    k0_pay78 v160 (k0_pay74 v147 v159 v171) (k0_pay75 v88 v136 v159 v179) (k0_pay76 v88 v136 v159 v179) k0_pay77 (ix2 0 r) = keep (rank (v147 (ix2 0 r)) (v159 (ix2 0 r)) (v171 (ix2 0 r)) (v183 (ix2 0 r)) 1) (v160 (ix2 0 r)) := by
  unfold k0_pay75 k0_pay76
  rw [h]
  pointwise [k0_pay78, k0_pay74, k0_pay77, keep, rank, before]

/-- The third entry's score, kept where its rank is below two. -/
theorem pay79_at (v147 v159 v171 v172 v183 : FVec Ideal S1x512 .f32) (r : Fin 512) :
    k0_pay79 v147 v159 v171 v172 v183 (ix2 0 r) = keep (rank (v147 (ix2 0 r)) (v159 (ix2 0 r)) (v171 (ix2 0 r)) (v183 (ix2 0 r)) 2) (v172 (ix2 0 r)) := by
  pointwise [k0_pay79, keep, rank, before]

/-- The fourth entry's score, kept where its rank is below two. -/
theorem pay81_at (v147 v159 v171 v183 v184 : FVec Ideal S1x512 .f32) (r : Fin 512) :
    k0_pay81 v171 v183 v184 (k0_pay80 v147 v159 v183) (ix2 0 r) = keep (rank (v147 (ix2 0 r)) (v159 (ix2 0 r)) (v171 (ix2 0 r)) (v183 (ix2 0 r)) 3) (v184 (ix2 0 r)) := by
  pointwise [k0_pay81, k0_pay80, keep, rank, before]

/-- One over the kept scores' sum. -/
theorem pay82_at (v171 v183 v184 v210 v236 v262 : FVec Ideal S1x512 .f32) (v277 : IVec S1x512 32) (r : Fin 512) :
    k0_pay82 v171 v183 v184 v210 v236 v262 v277 (ix2 0 r) =
      Ideal.div 1 ((v210 (ix2 0 r) + v236 (ix2 0 r)) + (v262 (ix2 0 r) + k0_pay81 v171 v183 v184 v277 (ix2 0 r))) := by
  unfold k0_pay82
  generalize k0_pay81 v171 v183 v184 v277 = X
  pointwise

/-- The sixteen rows of the table. -/
theorem pay1_at (v288 : FVec Ideal S1x512 .f32) (v136 : IVec S1x512 32) (v171 v183 v184 v210 v236 v262 X : FVec Ideal S1x512 .f32) (v277 : IVec S1x512 32)
    (hX : k0_pay82 v171 v183 v184 v210 v236 v262 v277 = X) (e : Fin 16) (r : Fin 512) :
    k0_pay1 v288 X (iota .tc S16x512 32 [0] iota_S16x512_d0_w32) (k0_pay83 v136 v171 v183 v184 v210 v236 v262 v277) k0_pay84 (k0_pay85 v171 v183 v184 v210 v236 v262 v277) (ix3 0 e r) =
      row e (v210 (ix2 0 r) * X (ix2 0 r)) (v236 (ix2 0 r) * X (ix2 0 r)) (v262 (ix2 0 r) * X (ix2 0 r)) (v288 (ix2 0 r) * X (ix2 0 r)) (v136 (ix2 0 r)) := by
  unfold k0_pay83 k0_pay85
  rw [hX]
  pointwise [k0_pay1, k0_pay84, row]

end Cert.Kernel2Ideal.Block
-- ==== Proof.RouteRef.lean ====
module

public import proofs.«01_k».proof.Proof.Gen.Reference3Ideal.Run
public import proofs.«01_k».proof.Proof.PostRef
public import proofs.«01_k».proof.Proof.Route

/-! What the third reference's routing table holds, at an index. -/

@[expose] public section

set_option maxRecDepth 16384

noncomputable section

namespace Cert.Reference3Ideal.At

open Idealize.ShloMosaic Idealize.ShloMosaic.TcCoe Idealize.ShloMosaic.Tactic Idealize.SL.Sem
open Idealize.ShloMosaic.StableHlo
open Cert.Reference3Ideal.Gen Cert.Reference3Ideal.Value Cert.Route

theorem slice3 {α : Type} {n : ℕ} (f : S2x16384x4.Idx → α) (h : S2x16384x4.Slices (fun _ => 0) ⟨3, ![2, 16384, n]⟩) (hn : n ≤ 4)
    (b : Fin 2) (i : Fin 16384) (k : Fin n) :
    extractStridedSlice ⟨3, ![2, 16384, n]⟩ (fun _ => 0) f h (ix3 b i k) = f (ix3 b i (k.castLE hn)) := by
  refine congrArg f (funext fun a => Fin.ext ?_)
  match a with
  | ⟨0, _⟩ => exact Nat.zero_add _
  | ⟨1, _⟩ => exact Nat.zero_add _
  | ⟨2, _⟩ => exact Nat.zero_add _

theorem slice4 {α : Type} (f : S2x16384x4x4.Idx → α) (h : S2x16384x4x4.Slices (fun _ => 0) S2x16384x4x2)
    (b : Fin 2) (i : Fin 16384) (g : Fin 4) (k : Fin 2) :
    extractStridedSlice S2x16384x4x2 (fun _ => 0) f h (ix4 b i g k) = f (ix4 b i g (k.castLE (by decide))) := by
  refine congrArg f (funext fun a => Fin.ext ?_)
  match a with
  | ⟨0, _⟩ => exact Nat.zero_add _
  | ⟨1, _⟩ => exact Nat.zero_add _
  | ⟨2, _⟩ => exact Nat.zero_add _
  | ⟨3, _⟩ => exact Nat.zero_add _

theorem along3 (b : Fin 2) (i : Fin 16384) (j k : Fin 4) (h : 2 < S2x16384x4.rank) :
    Shape.Idx.along (s := S2x16384x4) (ix3 b i j) ⟨2, h⟩ k = ix3 b i k := by
  funext a
  match a with
  | ⟨0, _⟩ => rfl
  | ⟨1, _⟩ => rfl
  | ⟨2, _⟩ => rfl

theorem along4 (b : Fin 2) (i : Fin 16384) (g j k : Fin 4) (h : 3 < S2x16384x4x4.rank) :
    Shape.Idx.along (s := S2x16384x4x4) (ix4 b i g j) ⟨3, h⟩ k = ix4 b i g k := by
  funext a
  match a with
  | ⟨0, _⟩ => rfl
  | ⟨1, _⟩ => rfl
  | ⟨2, _⟩ => rfl
  | ⟨3, _⟩ => rfl

/-- The values of the two greatest entries of each group. -/
theorem topk4_at (X : FVec Ideal S2x16384x4x4 .f32) (b : Fin 2) (i : Fin 16384) (g : Fin 4) (k : Fin 2) :
    (Host.topK S2x16384x4x2 3 (FloatOps.cmpfTotal .gt) X sliceFits_S2x16384x4x4_S2x16384x4x2).1 (ix4 b i g k)
      = X (ix4 b i g (place (fun e => X (ix4 b i g e)) (k.castLE (by decide)))) := by
  unfold Host.topK Host.sort2
  dsimp only
  rw [dif_pos (by decide), slice4]
  dsimp only
  refine congrArg X ?_
  refine (along4 b i g _ _ _).trans (congrArg (ix4 b i g) ?_)
  refine congrArg (fun R => sortedFrom R (k.castLE (by decide))) ?_
  funext x y
  exact congrArg₂ (fun u v : EReal => Ideal.cmp .ogt u v == 1#1) (congrArg X (along4 b i g _ x _)) (congrArg X (along4 b i g _ y _))

/-- The positions of the greatest entries. -/
theorem topk3_at {n : ℕ} (X : FVec Ideal S2x16384x4 .f32) (h : S2x16384x4.Slices (fun _ => 0) ⟨3, ![2, 16384, n]⟩) (hn : n ≤ 4) (b : Fin 2) (i : Fin 16384) (k : Fin n) :
    (Host.topK ⟨3, ![2, 16384, n]⟩ 2 (FloatOps.cmpfTotal .gt) X h).2 (ix3 b i k)
      = BitVec.ofNat 32 (place (fun e => X (ix3 b i e)) (k.castLE hn)).val := by
  unfold Host.topK Host.sort2
  dsimp only
  rw [dif_pos (by decide), slice3 _ h hn]
  dsimp only
  rw [dif_pos (by decide)]
  refine congrArg (fun p : Fin 4 => BitVec.ofNat 32 p.val) ?_
  refine congrArg (fun R => sortedFrom R (k.castLE hn)) ?_
  funext x y
  exact congrArg₂ (fun u v : EReal => Ideal.cmp .ogt u v == 1#1) (congrArg X (along3 b i _ x _)) (congrArg X (along3 b i _ y _))

theorem fin3 (a : Fin 3) : a = 0 ∨ a = 1 ∨ a = 2 := by revert a; decide
theorem fin4 (a : Fin 4) : a = 0 ∨ a = 1 ∨ a = 2 ∨ a = 3 := by revert a; decide

/-- A group's four entries. -/
theorem gather4_at (X : FVec Ideal S2x16384x4x4 .f32) (I : IVec S2x16384x1x1 32) (b : Fin 2) (i : Fin 16384) (e : Fin 4) (g : Fin 4)
    (hg : I (ix4 b i 0 0) = BitVec.ofNat 32 g.val) :
    Host.gather gather_S2x16384x4x4_S2x16384x1x1_S2x16384x1x4_3_2_01_01_2_3_1114 X I (ix4 b i 0 e) = X (ix4 b i g e) := by
  unfold Host.gather
  refine congrArg X (funext fun a => Fin.ext ?_)
  rcases fin4 a with rfl | rfl | rfl | rfl
  · show GatherDims.start _ _ _ _ + GatherDims.batchCoord _ _ _ + GatherDims.offCoord _ _ _ = _
    rw [GatherDims.start_batching _ _ _ _ (by decide), GatherDims.offCoord_eq_zero _ _ _ (by decide)]
    simp only [Nat.zero_add, Nat.add_zero]
    rfl
  · show GatherDims.start _ _ _ _ + GatherDims.batchCoord _ _ _ + GatherDims.offCoord _ _ _ = _
    rw [GatherDims.start_batching _ _ _ _ (by decide), GatherDims.offCoord_eq_zero _ _ _ (by decide)]
    simp only [Nat.zero_add, Nat.add_zero]
    rfl
  · show GatherDims.start _ _ _ _ + GatherDims.batchCoord _ _ _ + GatherDims.offCoord _ _ _ = _
    rw [GatherDims.batchCoord_eq_zero _ _ _ (by decide), GatherDims.offCoord_eq_zero _ _ _ (by decide)]
    simp only [Nat.add_zero]
    unfold GatherDims.start
    rw [dif_pos (by decide)]
    refine (congrArg (fun z : BitVec 32 => min z.toInt.toNat 3) (show I _ = BitVec.ofNat 32 g.val from (congrArg I ?_).trans hg)).trans ?_
    · funext c; refine Fin.ext ?_
      match c with
      | ⟨0, _⟩ => rfl
      | ⟨1, _⟩ => rfl
      | ⟨2, _⟩ => rfl
      | ⟨3, _⟩ => rfl
    · show min (BitVec.ofNat 32 g.val).toInt.toNat 3 = g.val
      clear hg; revert g; decide
  · show GatherDims.start _ _ _ _ + GatherDims.batchCoord _ _ _ + GatherDims.offCoord _ _ _ = _
    rw [GatherDims.batchCoord_eq_zero _ _ _ (by decide)]
    unfold GatherDims.start
    rw [dif_neg (by decide)]
    simp only [Nat.zero_add, Nat.add_zero]
    rfl

/-- The scores at two positions. -/
theorem gather16_at (X : FVec Ideal S2x16384x16 .f32) (I : IVec S2x16384x2x1 32) (b : Fin 2) (i : Fin 16384) (k : Fin 2) (p : Fin 16)
    (hp : I (ix4 b i k 0) = BitVec.ofNat 32 p.val) :
    Host.gather gather_S2x16384x16_S2x16384x2x1_S2x16384x2_n_2_01_01_2_3_111 X I (ix3 b i k) = X (ix3 b i p) := by
  unfold Host.gather
  refine congrArg X (funext fun a => Fin.ext ?_)
  rcases fin3 a with rfl | rfl | rfl
  · show GatherDims.start _ _ _ _ + GatherDims.batchCoord _ _ _ + GatherDims.offCoord _ _ _ = _
    rw [GatherDims.start_batching _ _ _ _ (by decide), GatherDims.offCoord_eq_zero _ _ _ (by decide)]
    simp only [Nat.zero_add, Nat.add_zero]
    rfl
  · show GatherDims.start _ _ _ _ + GatherDims.batchCoord _ _ _ + GatherDims.offCoord _ _ _ = _
    rw [GatherDims.start_batching _ _ _ _ (by decide), GatherDims.offCoord_eq_zero _ _ _ (by decide)]
    simp only [Nat.zero_add, Nat.add_zero]
    rfl
  · show GatherDims.start _ _ _ _ + GatherDims.batchCoord _ _ _ + GatherDims.offCoord _ _ _ = _
    rw [GatherDims.batchCoord_eq_zero _ _ _ (by decide), GatherDims.offCoord_eq_zero _ _ _ (by decide)]
    simp only [Nat.add_zero]
    unfold GatherDims.start
    rw [dif_pos (by decide)]
    refine (congrArg (fun z : BitVec 32 => min z.toInt.toNat 15) (show I _ = BitVec.ofNat 32 p.val from (congrArg I ?_).trans hp)).trans ?_
    · funext c; refine Fin.ext ?_
      match c with
      | ⟨0, _⟩ => rfl
      | ⟨1, _⟩ => rfl
      | ⟨2, _⟩ => rfl
      | ⟨3, _⟩ => rfl
    · show min (BitVec.ofNat 32 p.val).toInt.toNat 15 = p.val
      clear hp; revert p; decide

/-- A conjunction of ones is one. -/
theorem fold_one {ι : Type} (s : Finset ι) (f : ι → BitVec 1) (h : ∀ x ∈ s, f x = 1#1) : s.fold IntOp.andi 1#1 f = 1#1 := by
  classical
  induction s using Finset.induction_on with
  | empty => rfl
  | insert a s ha ih =>
    rw [Finset.fold_insert ha, h a (Finset.mem_insert_self a s), ih fun x hx => h x (Finset.mem_insert_of_mem hx)]
    rfl

theorem range4 (g : Fin 4) : IntOp.andi (IntOp.cmpi .sge (BitVec.ofNat 32 g.val) 0#32) (IntOp.cmpi .sle (BitVec.ofNat 32 g.val) 3#32) = 1#1 := by
  revert g; decide

theorem range16 (p : Fin 16) : IntOp.andi (IntOp.cmpi .sge (BitVec.ofNat 32 p.val) 0#32) (IntOp.cmpi .sle (BitVec.ofNat 32 p.val) 15#32) = 1#1 := by
  revert p; decide

theorem wrap4 (g : Fin 4) : Scalar.select (IntOp.cmpi .slt (BitVec.ofNat 32 g.val) 0#32) (IntOp.addi (BitVec.ofNat 32 g.val) 4#32) (BitVec.ofNat 32 g.val)
    = BitVec.ofNat 32 g.val := by
  revert g; decide

theorem wrap16 (g l : Fin 4) : Scalar.select (IntOp.cmpi .slt (IntOp.addi (IntOp.muli (BitVec.ofNat 32 g.val) 4#32) (BitVec.ofNat 32 l.val)) 0#32)
      (IntOp.addi (IntOp.addi (IntOp.muli (BitVec.ofNat 32 g.val) 4#32) (BitVec.ofNat 32 l.val)) 16#32)
      (IntOp.addi (IntOp.muli (BitVec.ofNat 32 g.val) 4#32) (BitVec.ofNat 32 l.val))
    = BitVec.ofNat 32 (at16 g l).val := by
  revert g l; decide

theorem drop4 (b : Fin 2) (i : Fin 16384) (x : S2x16384x1x1.Idx) (h : reducesTo_S2x16384x1x1_S2x16384x1_d3.drop x = ix3 b i 0) : x = ix4 b i 0 0 := by
  funext a
  rcases fin4 a with rfl | rfl | rfl | rfl
  · exact Fin.ext (congrArg Fin.val (congrFun h 0))
  · exact Fin.ext (congrArg Fin.val (congrFun h 1))
  · exact Subsingleton.elim (α := Fin 1) _ _
  · exact Subsingleton.elim (α := Fin 1) _ _

theorem drop16 (b : Fin 2) (i : Fin 16384) (k : Fin 2) (x : S2x16384x2x1.Idx) (h : reducesTo_S2x16384x2x1_S2x16384x2_d3.drop x = ix3 b i k) : x = ix4 b i k 0 := by
  funext a
  rcases fin4 a with rfl | rfl | rfl | rfl
  · exact Fin.ext (congrArg Fin.val (congrFun h 0))
  · exact Fin.ext (congrArg Fin.val (congrFun h 1))
  · exact Fin.ext (congrArg Fin.val (congrFun h 2))
  · exact Subsingleton.elim (α := Fin 1) _ _

/-- The scores at an index, from the features. -/
theorem score_at (X : FVec Ideal S2x16384x1024 .f32) (W : FVec Ideal S1024x16 .f32) (b : Fin 2) (i : Fin 16384) (e : Fin 16) :
    (Host.divf (broadcastInDim S2x16384x16 ![] bcast_S_S2x16384x16 (constant S_ .f32 0x3F800000#32))
      (addf (broadcastInDim S2x16384x16 ![] bcast_S_S2x16384x16 (constant S_ .f32 0x3F800000#32))
        (Host.exp (Host.negf (Host.dotGeneral dot_S2x16384x1024_S1024x16_S2x16384x16_2_0_01_1_n_n none X W))))
      : FVec Ideal S2x16384x16 .f32) (ix3 b i e) = Ideal.logistic (∑ x : Fin 1024, X (ix3 b i x) * W (ix2 x e)) := by
  refine Eq.trans ?_ (show Ideal.div 1 (1 + Ideal.exp (-∑ x : Fin 1024, X (ix3 b i x) * W (ix2 x e))) = _ from rfl)
  pointwise

section Table

variable (V0 : Valuation τ sig (Elt Ideal)) (b : Fin 2) (i : Fin 16384)

/-- The router's bias. -/
def routerB : FVec Ideal S16 .f32 := V0 (Proc.devRef .tc main_arg7)
/-- The scores. -/
def scores : FVec Ideal S2x16384x16 .f32 := res_main_v37 V0
/-- The biased scores, in groups. -/
def biased : FVec Ideal S2x16384x4x4 .f32 := res_main_v41 V0
/-- The sums of the groups' two greatest. -/
def sums : FVec Ideal S2x16384x4 .f32 := res_main_v42 V0
/-- The group chosen. -/
def group : IVec S2x16384 32 := res_main_v43 V0
/-- The group chosen, wrapped. -/
def start4 : IVec S2x16384x1x1 32 := res_main_call0_v4 V0
/-- The chosen group's biased scores. -/
def chosen : FVec Ideal S2x16384x4 .f32 := res_main_v46 V0
/-- The two entries. -/
def locals : IVec S2x16384x2 32 := res_main_indices_9 V0
/-- The two entries' positions among the sixteen. -/
def start16 : IVec S2x16384x2x1 32 := res_main_call1_v5 V0
/-- The two entries' scores. -/
def weights : FVec Ideal S2x16384x2 .f32 := res_main_v52 V0
/-- The group's weights. -/
def dense : FVec Ideal S2x16384x4 .f32 := res_main_v61 V0

/-- The biased scores, four groups of four. -/
theorem biased_at (g e : Fin 4) : biased V0 (ix4 b i g e) = scores V0 (ix3 b i (at16 g e)) + routerB V0 (ix1 (at16 g e)) := by
  unfold biased scores routerB res_main_v41
  generalize res_main_v37 V0 = X
  generalize V0 (Proc.devRef .tc main_arg7) = W
  pointwise [at16]

/-- The sums of the groups' two greatest. -/
theorem sums_at (g : Fin 4) : sums V0 (ix3 b i g)
    = ∑ k : Fin 2, biased V0 (ix4 b i g (place (fun e => biased V0 (ix4 b i g e)) (k.castLE (by decide)))) := by
  show (Host.reduceAdd ((Host.topK S2x16384x4x2 3 (FloatOps.cmpfTotal .gt) (biased V0) sliceFits_S2x16384x4x4_S2x16384x4x2).1) (constant S_ .f32 0x00000000#32) reducesTo_S2x16384x4x2_S2x16384x4_d3 h_S_ : FVec Ideal S2x16384x4 .f32) (ix3 b i g) = _
  generalize biased V0 = X
  refine Eq.trans ?_ (Finset.sum_congr rfl fun k _ => topk4_at X b i g k)
  generalize (Host.topK S2x16384x4x2 3 (FloatOps.cmpfTotal .gt) X sliceFits_S2x16384x4x4_S2x16384x4x2).1 = Y
  pointwise

/-- The group chosen. -/
theorem group_at : group V0 (ix2 b i) = BitVec.ofNat 32 (place (fun g => sums V0 (ix3 b i g)) 0).val := by
  show (shapeCast S2x16384 ((Host.topK S2x16384x1 2 (FloatOps.cmpfTotal .gt) (sums V0) sliceFits_S2x16384x4_S2x16384x1).2) shapeCasts_S2x16384x1_S2x16384 : IVec S2x16384 32) (ix2 b i) = _
  generalize sums V0 = X
  refine Eq.trans ?_ (topk3_at (n := 1) X sliceFits_S2x16384x4_S2x16384x1 (by decide) b i 0)
  generalize (Host.topK S2x16384x1 2 (FloatOps.cmpfTotal .gt) X sliceFits_S2x16384x4_S2x16384x1).2 = Y
  pointwise

theorem start4_at (g : Fin 4) (hg : group V0 (ix2 b i) = BitVec.ofNat 32 g.val) :
    start4 V0 (ix4 b i 0 0) = BitVec.ofNat 32 g.val := by
  refine Eq.trans ?_ (wrap4 g)
  rw [← hg]
  unfold start4 group res_main_call0_v4 res_main_v44
  generalize (res_main_v43 V0 : IVec S2x16384 32) = X
  pointwise

/-- The chosen group's biased scores. -/
theorem chosen_at (g : Fin 4) (hg : start4 V0 (ix4 b i 0 0) = BitVec.ofNat 32 g.val) (e : Fin 4) :
    chosen V0 (ix3 b i e) = biased V0 (ix4 b i g e) := by
  refine Eq.trans ?_ (gather4_at (biased V0) (start4 V0) b i e g hg)
  unfold start4 at hg
  unfold chosen res_main_v46 biased start4
  generalize Host.gather gather_S2x16384x4x4_S2x16384x1x1_S2x16384x1x4_3_2_01_01_2_3_1114 _ _ = Y
  generalize res_main_call0_v4 V0 = I at *
  pointwise
  rw [fold_one]
  · rfl
  · intro x hx
    rw [drop4 b i x (Finset.mem_filter.1 hx).2, hg, range4]

/-- The two entries' positions in the chosen group. -/
theorem local_at (k : Fin 2) : locals V0 (ix3 b i k)
    = BitVec.ofNat 32 (place (fun e => chosen V0 (ix3 b i e)) (k.castLE (by decide))).val := by
  unfold locals res_main_indices_9
  exact topk3_at (n := 2) _ sliceFits_S2x16384x4_S2x16384x2 (by decide) b i k

theorem start16_at (k : Fin 2) (g l : Fin 4) (hg : group V0 (ix2 b i) = BitVec.ofNat 32 g.val)
    (hl : locals V0 (ix3 b i k) = BitVec.ofNat 32 l.val) :
    start16 V0 (ix4 b i k 0) = BitVec.ofNat 32 (at16 g l).val := by
  refine Eq.trans ?_ (wrap16 g l)
  rw [← hg, ← hl]
  unfold start16 group locals res_main_call1_v5 res_main_v51
  generalize (res_main_v43 V0 : IVec S2x16384 32) = X
  generalize (res_main_indices_9 V0 : IVec S2x16384x2 32) = Y
  pointwise

/-- The two entries' scores. -/
theorem weight_at (k : Fin 2) (p : Fin 16) (hp : start16 V0 (ix4 b i k 0) = BitVec.ofNat 32 p.val) :
    weights V0 (ix3 b i k) = scores V0 (ix3 b i p) := by
  refine Eq.trans ?_ (gather16_at (scores V0) (start16 V0) b i k p hp)
  unfold start16 at hp
  unfold weights res_main_v52 scores start16
  generalize Host.gather gather_S2x16384x16_S2x16384x2x1_S2x16384x2_n_2_01_01_2_3_111 _ _ = Y
  generalize res_main_call1_v5 V0 = I at *
  pointwise
  rw [fold_one]
  · rfl
  · intro x hx
    rw [drop16 b i k x (Finset.mem_filter.1 hx).2, hp, range16]

/-- The weights of the chosen group's entries. -/
theorem dense_at (e : Fin 4) : dense V0 (ix3 b i e)
    = ∑ k : Fin 2, FloatOps.uitofp (F := Ideal) .f32 (IntOp.cmpi .eq (locals V0 (ix3 b i k)) (BitVec.ofNat 32 e.val)) *
        Ideal.div (weights V0 (ix3 b i k)) (∑ x : Fin 2, weights V0 (ix3 b i x)) := by
  unfold dense weights locals res_main_v61
  generalize (res_main_v52 V0 : FVec Ideal S2x16384x2 .f32) = X
  generalize (res_main_indices_9 V0 : IVec S2x16384x2 32) = Y
  pointwise

/-- The table, from its pieces. -/
theorem table_of (D : FVec Ideal S2x16384x4 .f32) (G : IVec S2x16384 32) (e : Fin 16) :
   (transpose S2x16x16384 [0, 2, 1] ((concatenate S2x16384x16 2 [⟨S2x16384x4, D⟩, ⟨S2x16384x4, D⟩, ⟨S2x16384x1, ((sitofp .f32 (broadcastInDim S2x16384x1 ![0, 1] bcast_S2x16384_S2x16384x1_0_1 G)) : FVec Ideal S2x16384x1 .f32)⟩, ⟨S2x16384x7, ((broadcastInDim S2x16384x7 ![] bcast_S_S2x16384x7 (constant S_ .f32 0x00000000#32)) : FVec Ideal S2x16384x7 .f32)⟩] concatenates_S2x16384x4_S2x16384x4_S2x16384x1_S2x16384x7_S2x16384x16_d2 : FVec Ideal S2x16384x16 .f32)) transposes_S2x16384x16_S2x16x16384_0_2_1 : FVec Ideal S2x16x16384 .f32) (ix3 b e i)
    = table (fun e => D (ix3 b i e)) (G (ix2 b i)) e := by
  pointwise [table]

/-- The table at an index: the routing of the scores and the biased scores. -/
theorem table_at (e : Fin 16) :
    table (fun e => dense V0 (ix3 b i e)) (group V0 (ix2 b i)) e
      = routed (fun g e => scores V0 (ix3 b i (at16 g e))) (fun g e => scores V0 (ix3 b i (at16 g e)) + routerB V0 (ix1 (at16 g e))) e := by
  have hβ : (fun g e => biased V0 (ix4 b i g e)) = fun g e => scores V0 (ix3 b i (at16 g e)) + routerB V0 (ix1 (at16 g e)) :=
    funext fun g => funext fun e => biased_at V0 b i g e
  rw [← hβ]
  have hg : group V0 (ix2 b i) = BitVec.ofNat 32 (groupOf fun g e => biased V0 (ix4 b i g e)).val := by
    rw [group_at]
    unfold groupOf
    rw [funext fun g => sums_at V0 b i g]
  have hc := funext fun e => chosen_at V0 b i _ (start4_at V0 b i _ hg) e
  have hl : ∀ k, locals V0 (ix3 b i k) = BitVec.ofNat 32 (entryOf (fun g e => biased V0 (ix4 b i g e)) k).val := fun k => by
    rw [local_at, hc]
    rfl
  have hw : ∀ k, weights V0 (ix3 b i k) = scores V0 (ix3 b i (at16 (groupOf fun g e => biased V0 (ix4 b i g e)) (entryOf (fun g e => biased V0 (ix4 b i g e)) k))) :=
    fun k => weight_at V0 b i k _ (start16_at V0 b i k _ _ hg (hl k))
  unfold routed
  rw [hg]
  refine congrArg (fun d : Fin 4 → EReal => table d _ e) (funext fun e => ?_)
  rw [dense_at, Finset.sum_congr rfl fun x _ => hw x]
  refine Finset.sum_congr rfl fun k _ => ?_
  rw [hl k, hw k]

end Table

/-- Entry `e` of a position's scores, from the features. -/
def scoreOf (F : Fin 1024 → EReal) (W : FVec Ideal S1024x16 .f32) (e : Fin 16) : EReal :=
  Ideal.logistic (∑ x : Fin 1024, F x * W (ix2 x e))

/-- The table's column for a position's features. -/
def column (F : Fin 1024 → EReal) (W : FVec Ideal S1024x16 .f32) (B : FVec Ideal S16 .f32) (e : Fin 16) : EReal :=
  routed (fun g e => scoreOf F W (at16 g e)) (fun g e => scoreOf F W (at16 g e) + B (ix1 (at16 g e))) e

/-- The scores at an index, from the arguments. -/
theorem scores_at (m : (ℓ : Loc nD τ sig) → Buf (Elt Ideal) ℓ) (c : Dev nD) (b : Fin 2) (i : Fin 16384) (e : Fin 16) :
    scores (launchContents m c) (ix3 b i e)
      = scoreOf (Cert.Post.feat (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5)) b i)
          (m ((c.tc : Thread nD τ).loc main_arg6)) e :=
  (score_at _ _ b i e).trans (congrArg Ideal.logistic (Finset.sum_congr rfl fun x _ =>
    congrArg (fun y : EReal => y * (m ((c.tc : Thread nD τ).loc main_arg6) : FVec Ideal S1024x16 .f32) (ix2 x e))
      ((Cert.Reference2Ideal.At.feat_at _ _ _ b i x).trans
        (Cert.Reference2Ideal.At.feat_of_mid _ _ _ _ _ _ b i x _ (Cert.Reference2Ideal.At.mid_eq _ _ _ _ _ b i)))))

/-- The third reference's run: the table it returns, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (b : Fin 2) (e : Fin 16) (i : Fin 16384),
        r.2.mem ((c.tc : Thread nD τ).loc main_v66) (ix3 b e i)
          = column (Cert.Post.feat (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5)) b i)
            (m ((c.tc : Thread nD τ).loc main_arg6)) (m ((c.tc : Thread nD τ).loc main_arg7)) e)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r hr c => ⟨fun b e i => ?_, (hr c).2⟩) (Value.run (F := Ideal) m ρ)
  rw [(hr c).1]
  refine (table_of b i (dense (launchContents m c)) (group (launchContents m c)) e).trans ((table_at (launchContents m c) b i e).trans ?_)
  unfold column
  rw [funext fun g => funext fun e => scores_at m c b i (at16 g e), funext fun g => funext fun e => congrArg (fun y : EReal => y + routerB (launchContents m c) (ix1 (at16 g e))) (scores_at m c b i (at16 g e))]
  rfl

end Cert.Reference3Ideal.At
-- ==== Proof.RoutePoint.lean ====
module

public import proofs.«01_k».proof.Proof.PostPoint
public import proofs.«01_k».proof.Proof.RouteBlock
public import proofs.«01_k».proof.Proof.RouteRef

/-! What the second kernel's routing table holds after its run, at an index, as a function of the arguments. -/

@[expose] public section

set_option maxRecDepth 16384

noncomputable section

namespace Cert.Kernel2Ideal.Point

open Idealize.ShloMosaic Idealize.ShloMosaic.TcCoe Idealize.ShloMosaic.Tactic
open Cert.Kernel2Ideal.Gen Cert.Kernel2Ideal.Block Cert.Route
open Cert.Reference3Ideal.At (scoreOf)

section Blocks

variable (x0 x1 : Vec Ideal S1x512x512 .bf16) (x2 : Vec Ideal S1x512x1024 .f32) (x3 x4 x5 : Vec Ideal S1x1x1024 .f32)
  (x6 : Vec Ideal S1x1024 .f32) (x7 : Vec Ideal S1024x1024 .bf16) (x8 : Vec Ideal S16x1024 .f32) (x9 : Vec Ideal S16x1 .f32)

/-- A block's scores before they are biased. -/
def plain : FVec Ideal S16x512 .f32 := k0_pay7 (k0_pay86 x0 x1 x2 x3 x4 x5 x6 x7 x8 x9) (View.ld x6 r0_5) (View.ld x5 r0_4) (View.ld x4 r0_4) (View.ld x8 r0_6)

/-- A column's scores, four groups of four. -/
def scores (r : Fin 512) (g e : Fin 4) : EReal := plain x0 x1 x2 x3 x4 x5 x6 x7 x8 x9 (ix2 (at16 g e) r)

/-- A column's biased scores, four groups of four. -/
def biased (r : Fin 512) (g e : Fin 4) : EReal := (k0_pay87 x0 x1 x2 x3 x4 x5 x6 x7 x8 x9) (ix2 (at16 g e) r)

/-- The group a column chooses. -/
def chosen (β : Fin 4 → Fin 4 → EReal) : BitVec 32 :=
  best (top (β 0 0) (β 0 1) (β 0 2) (β 0 3)) (top (β 1 0) (β 1 1) (β 1 2) (β 1 3)) (top (β 2 0) (β 2 1) (β 2 2) (β 2 3))
    (top (β 3 0) (β 3 1) (β 3 2) (β 3 3))

/-- Entry `i` of the chosen group. -/
def inGroup (β s : Fin 4 → Fin 4 → EReal) (i : Fin 4) : EReal := pick (chosen β) (s 0 i) (s 1 i) (s 2 i) (s 3 i)

/-- Entry `i`'s score, kept where at most one entry of the chosen group comes before it. -/
def kept (β s : Fin 4 → Fin 4 → EReal) (i : Fin 4) : EReal :=
  keep (rank (inGroup β β 0) (inGroup β β 1) (inGroup β β 2) (inGroup β β 3) i) (inGroup β s i)

theorem pick_congr {g g' : BitVec 32} {a a' b b' c c' d d' : EReal} (hg : g = g') (ha : a = a') (hb : b = b') (hc : c = c') (hd : d = d') :
    pick g a b c d = pick g' a' b' c' d' := by
  rw [hg, ha, hb, hc, hd]

theorem keep_congr {a a' b b' c c' d d' v v' : EReal} (i : Fin 4) (ha : a = a') (hb : b = b') (hc : c = c') (hd : d = d') (hv : v = v') :
    keep (rank a b c d i) v = keep (rank a' b' c' d' i) v' := by
  rw [ha, hb, hc, hd, hv]

/-- The group a column of a block chooses. -/
theorem group_at (r : Fin 512) : (k0_pay97 x0 x1 x2 x3 x4 x5 x6 x7 x8 x9) (ix2 0 r) = chosen (biased x0 x1 x2 x3 x4 x5 x6 x7 x8 x9 r) := by
  refine (pay50_at (k0_pay87 x0 x1 x2 x3 x4 x5 x6 x7 x8 x9) (k0_pay88 x0 x1 x2 x3 x4 x5 x6 x7 x8 x9) (k0_pay89 x0 x1 x2 x3 x4 x5 x6 x7 x8 x9) r).trans ?_
  rw [pay41_at, pay42_at, pay43_at, pay44_at]
  unfold k0_pay88 k0_pay89 k0_pay25 k0_pay26
  rw [row_at _ 0 (by decide), row_at _ 1 (by decide)]
  rfl

/-- The chosen group's biased scores. -/
theorem entry0_at (r : Fin 512) : (k0_pay98 x0 x1 x2 x3 x4 x5 x6 x7 x8 x9) (ix2 0 r) = inGroup (biased x0 x1 x2 x3 x4 x5 x6 x7 x8 x9 r) (biased x0 x1 x2 x3 x4 x5 x6 x7 x8 x9 r) 0 :=
  (pick_at (k0_pay97 x0 x1 x2 x3 x4 x5 x6 x7 x8 x9) _ _ _ _ r).trans (pick_congr (group_at x0 x1 x2 x3 x4 x5 x6 x7 x8 x9 r) (row_at (k0_pay87 x0 x1 x2 x3 x4 x5 x6 x7 x8 x9) 0 (by decide) (by decide) r) (row_at (k0_pay87 x0 x1 x2 x3 x4 x5 x6 x7 x8 x9) 4 (by decide) (by decide) r)
    (row_at (k0_pay87 x0 x1 x2 x3 x4 x5 x6 x7 x8 x9) 8 (by decide) (by decide) r) (row_at (k0_pay87 x0 x1 x2 x3 x4 x5 x6 x7 x8 x9) 12 (by decide) (by decide) r))
theorem entry1_at (r : Fin 512) : (k0_pay99 x0 x1 x2 x3 x4 x5 x6 x7 x8 x9) (ix2 0 r) = inGroup (biased x0 x1 x2 x3 x4 x5 x6 x7 x8 x9 r) (biased x0 x1 x2 x3 x4 x5 x6 x7 x8 x9 r) 1 :=
  (pick_at (k0_pay97 x0 x1 x2 x3 x4 x5 x6 x7 x8 x9) _ _ _ _ r).trans (pick_congr (group_at x0 x1 x2 x3 x4 x5 x6 x7 x8 x9 r) (row_at (k0_pay87 x0 x1 x2 x3 x4 x5 x6 x7 x8 x9) 1 (by decide) (by decide) r) (row_at (k0_pay87 x0 x1 x2 x3 x4 x5 x6 x7 x8 x9) 5 (by decide) (by decide) r)
    (row_at (k0_pay87 x0 x1 x2 x3 x4 x5 x6 x7 x8 x9) 9 (by decide) (by decide) r) (row_at (k0_pay87 x0 x1 x2 x3 x4 x5 x6 x7 x8 x9) 13 (by decide) (by decide) r))
theorem entry2_at (r : Fin 512) : (k0_pay100 x0 x1 x2 x3 x4 x5 x6 x7 x8 x9) (ix2 0 r) = inGroup (biased x0 x1 x2 x3 x4 x5 x6 x7 x8 x9 r) (biased x0 x1 x2 x3 x4 x5 x6 x7 x8 x9 r) 2 :=
  (pick_at (k0_pay97 x0 x1 x2 x3 x4 x5 x6 x7 x8 x9) _ _ _ _ r).trans (pick_congr (group_at x0 x1 x2 x3 x4 x5 x6 x7 x8 x9 r) (row_at (k0_pay87 x0 x1 x2 x3 x4 x5 x6 x7 x8 x9) 2 (by decide) (by decide) r) (row_at (k0_pay87 x0 x1 x2 x3 x4 x5 x6 x7 x8 x9) 6 (by decide) (by decide) r)
    (row_at (k0_pay87 x0 x1 x2 x3 x4 x5 x6 x7 x8 x9) 10 (by decide) (by decide) r) (row_at (k0_pay87 x0 x1 x2 x3 x4 x5 x6 x7 x8 x9) 14 (by decide) (by decide) r))
theorem entry3_at (r : Fin 512) : (k0_pay102 x0 x1 x2 x3 x4 x5 x6 x7 x8 x9) (ix2 0 r) = inGroup (biased x0 x1 x2 x3 x4 x5 x6 x7 x8 x9 r) (biased x0 x1 x2 x3 x4 x5 x6 x7 x8 x9 r) 3 :=
  (pick_at (k0_pay97 x0 x1 x2 x3 x4 x5 x6 x7 x8 x9) _ _ _ _ r).trans (pick_congr (group_at x0 x1 x2 x3 x4 x5 x6 x7 x8 x9 r) (row_at (k0_pay87 x0 x1 x2 x3 x4 x5 x6 x7 x8 x9) 3 (by decide) (by decide) r) (row_at (k0_pay87 x0 x1 x2 x3 x4 x5 x6 x7 x8 x9) 7 (by decide) (by decide) r)
    (row_at (k0_pay87 x0 x1 x2 x3 x4 x5 x6 x7 x8 x9) 11 (by decide) (by decide) r) (row_at (k0_pay87 x0 x1 x2 x3 x4 x5 x6 x7 x8 x9) 15 (by decide) (by decide) r))

/-- The kept scores of the chosen group. -/
theorem kept0_at (r : Fin 512) : (k0_pay104 x0 x1 x2 x3 x4 x5 x6 x7 x8 x9) (ix2 0 r) = kept (biased x0 x1 x2 x3 x4 x5 x6 x7 x8 x9 r) (scores x0 x1 x2 x3 x4 x5 x6 x7 x8 x9 r) 0 :=
  (pay73_at (k0_pay90 x0 x1 x2 x3 x4 x5 x6 x7 x8 x9) (k0_pay97 x0 x1 x2 x3 x4 x5 x6 x7 x8 x9) (k0_pay98 x0 x1 x2 x3 x4 x5 x6 x7 x8 x9) _ (k0_pay99 x0 x1 x2 x3 x4 x5 x6 x7 x8 x9) (k0_pay100 x0 x1 x2 x3 x4 x5 x6 x7 x8 x9) (k0_pay101 x0 x1 x2 x3 x4 x5 x6 x7 x8 x9) (k0_pay102 x0 x1 x2 x3 x4 x5 x6 x7 x8 x9) r rfl).trans
    (keep_congr 0 (entry0_at x0 x1 x2 x3 x4 x5 x6 x7 x8 x9 r) (entry1_at x0 x1 x2 x3 x4 x5 x6 x7 x8 x9 r) (entry2_at x0 x1 x2 x3 x4 x5 x6 x7 x8 x9 r) (entry3_at x0 x1 x2 x3 x4 x5 x6 x7 x8 x9 r)
      ((pick_at (k0_pay97 x0 x1 x2 x3 x4 x5 x6 x7 x8 x9) _ _ _ _ r).trans (pick_congr (group_at x0 x1 x2 x3 x4 x5 x6 x7 x8 x9 r) (row_at (plain x0 x1 x2 x3 x4 x5 x6 x7 x8 x9) 0 (by decide) (by decide) r) (row_at (plain x0 x1 x2 x3 x4 x5 x6 x7 x8 x9) 4 (by decide) (by decide) r)
        (row_at (plain x0 x1 x2 x3 x4 x5 x6 x7 x8 x9) 8 (by decide) (by decide) r) (row_at (plain x0 x1 x2 x3 x4 x5 x6 x7 x8 x9) 12 (by decide) (by decide) r))))
theorem kept1_at (r : Fin 512) : (k0_pay105 x0 x1 x2 x3 x4 x5 x6 x7 x8 x9) (ix2 0 r) = kept (biased x0 x1 x2 x3 x4 x5 x6 x7 x8 x9 r) (scores x0 x1 x2 x3 x4 x5 x6 x7 x8 x9 r) 1 :=
  (pay78_at (k0_pay90 x0 x1 x2 x3 x4 x5 x6 x7 x8 x9) (k0_pay97 x0 x1 x2 x3 x4 x5 x6 x7 x8 x9) (k0_pay98 x0 x1 x2 x3 x4 x5 x6 x7 x8 x9) (k0_pay99 x0 x1 x2 x3 x4 x5 x6 x7 x8 x9) _ (k0_pay100 x0 x1 x2 x3 x4 x5 x6 x7 x8 x9) (k0_pay101 x0 x1 x2 x3 x4 x5 x6 x7 x8 x9) (k0_pay102 x0 x1 x2 x3 x4 x5 x6 x7 x8 x9) r rfl).trans
    (keep_congr 1 (entry0_at x0 x1 x2 x3 x4 x5 x6 x7 x8 x9 r) (entry1_at x0 x1 x2 x3 x4 x5 x6 x7 x8 x9 r) (entry2_at x0 x1 x2 x3 x4 x5 x6 x7 x8 x9 r) (entry3_at x0 x1 x2 x3 x4 x5 x6 x7 x8 x9 r)
      ((pick_at (k0_pay97 x0 x1 x2 x3 x4 x5 x6 x7 x8 x9) _ _ _ _ r).trans (pick_congr (group_at x0 x1 x2 x3 x4 x5 x6 x7 x8 x9 r) (row_at (plain x0 x1 x2 x3 x4 x5 x6 x7 x8 x9) 1 (by decide) (by decide) r) (row_at (plain x0 x1 x2 x3 x4 x5 x6 x7 x8 x9) 5 (by decide) (by decide) r)
        (row_at (plain x0 x1 x2 x3 x4 x5 x6 x7 x8 x9) 9 (by decide) (by decide) r) (row_at (plain x0 x1 x2 x3 x4 x5 x6 x7 x8 x9) 13 (by decide) (by decide) r))))
theorem kept2_at (r : Fin 512) : (k0_pay106 x0 x1 x2 x3 x4 x5 x6 x7 x8 x9) (ix2 0 r) = kept (biased x0 x1 x2 x3 x4 x5 x6 x7 x8 x9 r) (scores x0 x1 x2 x3 x4 x5 x6 x7 x8 x9 r) 2 :=
  (pay79_at (k0_pay98 x0 x1 x2 x3 x4 x5 x6 x7 x8 x9) (k0_pay99 x0 x1 x2 x3 x4 x5 x6 x7 x8 x9) (k0_pay100 x0 x1 x2 x3 x4 x5 x6 x7 x8 x9) _ (k0_pay102 x0 x1 x2 x3 x4 x5 x6 x7 x8 x9) r).trans
    (keep_congr 2 (entry0_at x0 x1 x2 x3 x4 x5 x6 x7 x8 x9 r) (entry1_at x0 x1 x2 x3 x4 x5 x6 x7 x8 x9 r) (entry2_at x0 x1 x2 x3 x4 x5 x6 x7 x8 x9 r) (entry3_at x0 x1 x2 x3 x4 x5 x6 x7 x8 x9 r)
      ((pick_at (k0_pay97 x0 x1 x2 x3 x4 x5 x6 x7 x8 x9) _ _ _ _ r).trans (pick_congr (group_at x0 x1 x2 x3 x4 x5 x6 x7 x8 x9 r) (row_at (plain x0 x1 x2 x3 x4 x5 x6 x7 x8 x9) 2 (by decide) (by decide) r) (row_at (plain x0 x1 x2 x3 x4 x5 x6 x7 x8 x9) 6 (by decide) (by decide) r)
        (row_at (plain x0 x1 x2 x3 x4 x5 x6 x7 x8 x9) 10 (by decide) (by decide) r) (row_at (plain x0 x1 x2 x3 x4 x5 x6 x7 x8 x9) 14 (by decide) (by decide) r))))
theorem kept3_at (r : Fin 512) :
    k0_pay81 (k0_pay100 x0 x1 x2 x3 x4 x5 x6 x7 x8 x9) (k0_pay102 x0 x1 x2 x3 x4 x5 x6 x7 x8 x9) (k0_pay103 x0 x1 x2 x3 x4 x5 x6 x7 x8 x9) (k0_pay107 x0 x1 x2 x3 x4 x5 x6 x7 x8 x9) (ix2 0 r) = kept (biased x0 x1 x2 x3 x4 x5 x6 x7 x8 x9 r) (scores x0 x1 x2 x3 x4 x5 x6 x7 x8 x9 r) 3 :=
  (pay81_at (k0_pay98 x0 x1 x2 x3 x4 x5 x6 x7 x8 x9) (k0_pay99 x0 x1 x2 x3 x4 x5 x6 x7 x8 x9) (k0_pay100 x0 x1 x2 x3 x4 x5 x6 x7 x8 x9) (k0_pay102 x0 x1 x2 x3 x4 x5 x6 x7 x8 x9) (k0_pay103 x0 x1 x2 x3 x4 x5 x6 x7 x8 x9) r).trans
    (keep_congr 3 (entry0_at x0 x1 x2 x3 x4 x5 x6 x7 x8 x9 r) (entry1_at x0 x1 x2 x3 x4 x5 x6 x7 x8 x9 r) (entry2_at x0 x1 x2 x3 x4 x5 x6 x7 x8 x9 r) (entry3_at x0 x1 x2 x3 x4 x5 x6 x7 x8 x9 r)
      ((pick_at (k0_pay97 x0 x1 x2 x3 x4 x5 x6 x7 x8 x9) _ _ _ _ r).trans (pick_congr (group_at x0 x1 x2 x3 x4 x5 x6 x7 x8 x9 r) (row_at (plain x0 x1 x2 x3 x4 x5 x6 x7 x8 x9) 3 (by decide) (by decide) r) (row_at (plain x0 x1 x2 x3 x4 x5 x6 x7 x8 x9) 7 (by decide) (by decide) r)
        (row_at (plain x0 x1 x2 x3 x4 x5 x6 x7 x8 x9) 11 (by decide) (by decide) r) (row_at (plain x0 x1 x2 x3 x4 x5 x6 x7 x8 x9) 15 (by decide) (by decide) r))))

/-- The block of the table a point leaves, at an index. -/
theorem out12_at (e : Fin 16) (r : Fin 512) :
    out0_12 x0 x1 x2 x3 x4 x5 x6 x7 x8 x9 (ix3 0 e r) = compared (scores x0 x1 x2 x3 x4 x5 x6 x7 x8 x9 r) (biased x0 x1 x2 x3 x4 x5 x6 x7 x8 x9 r) e := by
  unfold out0_12
  rw [View.canon_unit_zero off3]
  refine (pay1_at _ (k0_pay97 x0 x1 x2 x3 x4 x5 x6 x7 x8 x9) (k0_pay100 x0 x1 x2 x3 x4 x5 x6 x7 x8 x9) (k0_pay102 x0 x1 x2 x3 x4 x5 x6 x7 x8 x9) (k0_pay103 x0 x1 x2 x3 x4 x5 x6 x7 x8 x9) (k0_pay104 x0 x1 x2 x3 x4 x5 x6 x7 x8 x9) (k0_pay105 x0 x1 x2 x3 x4 x5 x6 x7 x8 x9) (k0_pay106 x0 x1 x2 x3 x4 x5 x6 x7 x8 x9) _ (k0_pay107 x0 x1 x2 x3 x4 x5 x6 x7 x8 x9) rfl e r).trans ?_
  rw [pay82_at, kept0_at, kept1_at, kept2_at, kept3_at, group_at]
  rfl

/-- A column's scores, from its features. -/
theorem scores_at (r : Fin 512) (g e : Fin 4) :
    scores x0 x1 x2 x3 x4 x5 x6 x7 x8 x9 r g e
      = Ideal.logistic (∑ x : Fin 1024, x8 (ix2 (at16 g e) x) * feat x0 x1 x2 x3 x4 x5 x6 x7 r x) := by
  refine (score_at _ _ _ _ _ (at16 g e) r).trans ?_
  have e8 : View.ld x8 r0_6 = x8 := View.ld_unit_zero off2 _ x8
  rw [e8]
  exact congrArg Ideal.logistic (Finset.sum_congr rfl fun x _ => congrArg (fun y : EReal => x8 (ix2 (at16 g e) x) * y)
    (pay5_at x0 x1 x2 x3 x4 x5 x6 x7 x8 x9 r x))

/-- A column's biased scores, from its scores. -/
theorem biased_eq (r : Fin 512) (g e : Fin 4) :
    biased x0 x1 x2 x3 x4 x5 x6 x7 x8 x9 r g e = scores x0 x1 x2 x3 x4 x5 x6 x7 x8 x9 r g e + x9 (ix2 (at16 g e) 0) := by
  refine (biased_at _ _ _ _ _ _ (at16 g e) r).trans ?_
  have e9 : View.ld x9 r0_7 = x9 := View.ld_unit_zero off2 _ x9
  rw [e9]
  rfl

end Blocks

section Arrays

variable (m : (ℓ : Loc nD τ sig) → Buf (Elt Ideal) ℓ) (c : Dev nD)

/-- The array indices of the router's windows, over the point. -/
theorem idx8 (t : Fin cfg0.N) : win0_8.index t = ![0, 0] :=
  (by decide +kernel : ∀ t : Fin grid0.N, win0_8.index t = ![0, 0]) t
theorem idx9 (t : Fin cfg0.N) : win0_9.index t = ![0, 0] :=
  (by decide +kernel : ∀ t : Fin grid0.N, win0_9.index t = ![0, 0]) t
theorem idx12 (t : Fin cfg0.N) : win0_12.index t = ![t.val / 32, 0, t.val % 32] :=
  (by decide +kernel : ∀ t : Fin grid0.N, win0_12.index t = ![t.val / 32, 0, t.val % 32]) t

/-- The router's arrays, at an index, over the arguments. -/
theorem ent8 (e : Fin 16) (x : Fin 1024) : V m c main_v11 (ix2 e x) = m (c.tc.loc main_arg6) (ix2 x e) := by
  unfold V
  after_reads_at
theorem ent9 (e : Fin 16) : V m c main_v12 (ix2 e 0) = m (c.tc.loc main_arg7) (ix1 e) := by
  unfold V
  after_reads_at

variable (t : Fin cfg0.N) (b : Fin 2) (i : Fin 16384) (r : Fin 512) (hb : t.val / 32 = b.val) (hi : 512 * (t.val % 32) + r.val = i.val)

/-- A point's block of the router's weights. -/
theorem blk8 (X : Buf (Elt Ideal) (c.tc.loc main_v11 : Loc nD τ sig)) (e : Fin 16) (x : Fin 1024) :
    View.read (Elt Ideal) ((cfg0.win 8).blk t).view X (ix2 e x : S16x1024.Idx) = X (ix2 e x) := by
  blk_ext [idx8 t]

/-- A point's block of the router's bias. -/
theorem blk9 (X : Buf (Elt Ideal) (c.tc.loc main_v12 : Loc nD τ sig)) (e : Fin 16) :
    View.read (Elt Ideal) ((cfg0.win 9).blk t).view X (ix2 e 0 : S16x1.Idx) = X (ix2 e 0) := by
  blk_ext [idx9 t]

include hb hi in
/-- A point's block of the table. -/
theorem blk12 (X : Buf (Elt Ideal) (c.tc.loc main_v13_2 : Loc nD τ sig)) (e : Fin 16) :
    View.read (Elt Ideal) ((cfg0.win 12).blk t).view X (ix3 0 e r : S1x16x512.Idx) = X (ix3 b e i) := by
  obtain rfl : b = ⟨t.val / 32, batch_lt t⟩ := Fin.ext hb.symm
  obtain rfl : i = ⟨512 * (t.val % 32) + r.val, row_lt t r⟩ := Fin.ext hi.symm
  blk_ext [idx12 t]

/-- The scores of a position, over the arguments. -/
def score (b : Fin 2) (i : Fin 16384) (g e : Fin 4) : EReal :=
  scoreOf (Cert.Post.feat (m (c.tc.loc main_arg0)) (m (c.tc.loc main_arg1)) (m (c.tc.loc main_arg2)) (m (c.tc.loc main_arg3))
    (m (c.tc.loc main_arg4)) (m (c.tc.loc main_arg5)) b i) (m (c.tc.loc main_arg6)) (at16 g e)

include hb hi in
/-- A point's scores, over the arguments. -/
theorem point_score (g e : Fin 4) :
    scores (iblk m c 0 t) (iblk m c 1 t) (iblk m c 2 t) (iblk m c 3 t) (iblk m c 4 t) (iblk m c 5 t) (iblk m c 6 t) (iblk m c 7 t)
      (iblk m c 8 t) (iblk m c 9 t) r g e = score m c b i g e := by
  refine (scores_at _ _ _ _ _ _ _ _ _ _ r g e).trans ?_
  unfold score scoreOf
  refine congrArg Ideal.logistic (Finset.sum_congr rfl fun x _ => ?_)
  refine (mul_comm _ _).trans (congrArg₂ (fun y z : EReal => y * z) (point_feat m c t b i r hb hi x) ?_)
  exact (blk8 c t (V m c main_v11) (at16 g e) x).trans (ent8 m c (at16 g e) x)

include hb hi in
/-- A point's biased scores, over the arguments. -/
theorem point_biased (g e : Fin 4) :
    biased (iblk m c 0 t) (iblk m c 1 t) (iblk m c 2 t) (iblk m c 3 t) (iblk m c 4 t) (iblk m c 5 t) (iblk m c 6 t) (iblk m c 7 t)
      (iblk m c 8 t) (iblk m c 9 t) r g e
      = score m c b i g e + (m (c.tc.loc main_arg7) : FVec Ideal S16 .f32) (ix1 (at16 g e)) :=
  (biased_eq _ _ _ _ _ _ _ _ _ _ r g e).trans (congrArg₂ (fun y z : EReal => y + z) (point_score m c t b i r hb hi g e)
    ((blk9 c t (V m c main_v12) (at16 g e)).trans (ent9 m c (at16 g e))))

/-- The table's array after the run, at an index. -/
theorem array12_at (b : Fin 2) (e : Fin 16) (i : Fin 16384) :
    (dats m 0 c).arrAt 12 cfg0.N (ix3 b e i)
      = compared (score m c b i) (fun g e => score m c b i g e + (m (c.tc.loc main_arg7) : FVec Ideal S16 .f32) (ix1 (at16 g e))) e := by
  obtain ⟨t, r, hb, hi⟩ := point_of b i
  refine (blk12 c t b i r hb hi _ e).symm.trans ?_
  refine (congrFun ((Value.blocks12 m c t (flush0_12 t)).trans (Value.flushed12 m c t)) (ix3 0 e r)).trans ?_
  refine (out12_at _ _ _ _ _ _ _ _ _ _ e r).trans ?_
  rw [← funext fun g => funext fun e => point_biased m c t b i r hb hi g e, ← funext fun g => funext fun e => point_score m c t b i r hb hi g e]

end Arrays

end Cert.Kernel2Ideal.Point

end
-- ==== Proof.Finite3.lean ====
module

public import proofs.«01_k».proof.Proof.Finite
public import proofs.«01_k».proof.Proof.RouteRef

/-! What the precondition on the layer says, and what follows for the router: every score is above zero. -/

@[expose] public section

set_option maxRecDepth 16384

noncomputable section

namespace Cert.Finite3

open Idealize.ShloMosaic
open Cert.Reference3Ideal.At (scoreOf)

/-- The precondition's side conditions. -/
theorem facts : Cert.Pre_finite_layer.Facts where
  bcast_S_S2x16384x512 := by decide
  reducesTo_S2x16384x512_S_d0_1_2 := by decide
  h_S_ := by decide
  bcast_S_S2x16384x1024 := by decide
  reducesTo_S2x16384x1024_S_d0_1_2 := by decide
  bcast_S_S2x6144 := by decide
  reducesTo_S2x6144_S_d0_1 := by decide
  bcast_S_S1024 := by decide
  reducesTo_S1024_S_d0 := by decide
  bcast_S_S1024x1024 := by decide
  reducesTo_S1024x1024_S_d0_1 := by decide
  bcast_S_S1024x16 := by decide
  reducesTo_S1024x16_S_d0_1 := by decide

/-- A value that is a real number. -/
def IsReal (x : EReal) : Prop := ∃ r : ℝ, x = (r : EReal)

theorem IsReal.add {x y : EReal} : IsReal x → IsReal y → IsReal (x + y)
  | ⟨r, hr⟩, ⟨s, hs⟩ => ⟨r + s, by rw [hr, hs, EReal.coe_add]⟩

theorem IsReal.mul {x y : EReal} : IsReal x → IsReal y → IsReal (x * y)
  | ⟨r, hr⟩, ⟨s, hs⟩ => ⟨r * s, by rw [hr, hs, EReal.coe_mul]⟩

theorem IsReal.sum {n : ℕ} {f : Fin n → EReal} (h : ∀ k, IsReal (f k)) : IsReal (∑ k, f k) := by
  choose g hg using h
  exact ⟨∑ k, g k, by rw [Finset.sum_congr rfl fun k _ => hg k]; exact (map_sum (⟨⟨Real.toEReal, rfl⟩, EReal.coe_add⟩ : ℝ →+ EReal) g _).symm⟩

/-- The count of the columns, as the programs write it. -/
theorem count_eq : Ideal.ofBits .f32 0x44800000#32 = ((1024 : ℝ) : EReal) := by
  simp [Ideal.ofBits, Ideal.ieee]
  rw [← EReal.coe_mul]
  norm_num

/-- One, as the programs write it. -/
theorem one_real : IsReal (Ideal.ofBits .f32 0x3F800000#32) := by
  refine ⟨1, ?_⟩
  simp [Ideal.ofBits, Ideal.ieee]
  rw [← EReal.coe_mul]
  norm_num

/-- The number added under the root is a real number above zero. -/
theorem eps_eq : ∃ r : ℝ, 0 < r ∧ Ideal.ofBits .f32 0x358637BD#32 = (r : EReal) := by
  refine ⟨8796093 * (1 / 8796093022208), by positivity, ?_⟩
  simp [Ideal.ofBits, Ideal.ieee]
  rw [← EReal.coe_mul]
  exact congrArg Real.toEReal (by norm_num)

/-- One over the root of a mean square moved from zero is a real number. -/
theorem scale_real (f : Fin 1024 → EReal) (h : ∀ j, IsReal (f j)) :
    IsReal (Ideal.rsqrt (Ideal.div (∑ j, f j * f j) (Ideal.ofBits .f32 0x44800000#32) + Ideal.ofBits .f32 0x358637BD#32)) := by
  choose g hg using h
  obtain ⟨ε, hε, he⟩ := eps_eq
  have hs : (∑ j, f j * f j) = ((∑ j, g j * g j : ℝ) : EReal) := by
    rw [Finset.sum_congr rfl fun j _ => show f j * f j = ((g j * g j : ℝ) : EReal) by rw [hg, EReal.coe_mul]]
    exact (map_sum (⟨⟨Real.toEReal, rfl⟩, EReal.coe_add⟩ : ℝ →+ EReal) (fun j => g j * g j) _).symm
  have hq : Ideal.div (∑ j, f j * f j) (Ideal.ofBits .f32 0x44800000#32) + Ideal.ofBits .f32 0x358637BD#32
      = (((∑ j, g j * g j) * 1024⁻¹ + ε : ℝ) : EReal) := by
    rw [hs, count_eq, he]
    unfold Ideal.div
    rw [if_neg (by exact_mod_cast (by norm_num : (1024 : ℝ) ≠ 0)), ← EReal.coe_inv, ← EReal.coe_mul, ← EReal.coe_add]
  have hp : 0 < (∑ j, g j * g j) * 1024⁻¹ + ε := by
    have : 0 ≤ ∑ j, g j * g j := Finset.sum_nonneg fun j _ => mul_self_nonneg (g j)
    positivity
  rw [hq, Ideal.rsqrt_coe, if_neg hp.not_gt, if_neg hp.ne']
  exact ⟨_, rfl⟩

/-- The logistic of a real number is above zero. -/
theorem logistic_pos {x : EReal} : IsReal x → 0 < Ideal.logistic x
  | ⟨r, hr⟩ => by
    rw [hr, Ideal.logistic_coe]
    exact EReal.coe_pos.2 (by positivity)

section Layer

open Cert.Reference2Ideal

variable (o z : FVec Ideal S2x16384x512 .f32) (x : FVec Ideal S2x16384x1024 .f32) (md : FVec Ideal S2x6144 .f32)
  (gn : FVec Ideal S1024 .f32) (w : FVec Ideal S1024x1024 .f32)
  (ho : ∀ j, IsReal (o j)) (hz : ∀ j, IsReal (z j)) (hx : ∀ j, IsReal (x j)) (hm : ∀ j, IsReal (md j)) (hg : ∀ j, IsReal (gn j))
  (hw : ∀ j, IsReal (w j))

include ho hz hx hm hw in
/-- The residual stream is real where the layer's inputs are. -/
theorem mid_real (b : Fin 2) (i : Fin 16384) (j : Fin 1024) : IsReal (Cert.Post.mid o z x md w b i j) := by
  unfold Cert.Post.mid
  refine (hx _).add ((hm _).mul (IsReal.sum fun k => IsReal.mul ?_ (hw _)))
  unfold Cert.Post.cat
  split
  · exact ho _
  · exact hz _

include ho hz hx hm hg hw in
/-- The features are real where the layer's inputs are. -/
theorem feat_real (b : Fin 2) (i : Fin 16384) (j : Fin 1024) : IsReal (Cert.Post.feat o z x md gn w b i j) := by
  have h := mid_real o z x md w ho hz hx hm hw b i
  unfold Cert.Post.feat Cert.Post.scale
  exact ((((h j).mul (scale_real _ h)).mul (hg _)).mul (one_real.add (hm _))).add (hm _)

include ho hz hx hm hg hw in
/-- Every score is above zero where the layer's inputs are real. -/
theorem score_pos (W : FVec Ideal Cert.Reference3Ideal.S1024x16 .f32) (hW : ∀ j, IsReal (W j)) (b : Fin 2) (i : Fin 16384) (e : Fin 16) :
    0 < scoreOf (Cert.Post.feat o z x md gn w b i) W e :=
  logistic_pos (IsReal.sum fun k => (feat_real o z x md gn w ho hz hx hm hg hw b i k).mul (hW _))

end Layer

section Read

instance : Subsingleton (Cert.Pre_finite_layer.S_).Idx := ⟨fun a b => funext fun k => k.elim0⟩

variable [Cert.Pre_finite_layer.Facts]

open Cert.Pre_finite_layer in
/-- The precondition, read: the seven arrays hold real numbers. -/
theorem reals (a0 a1 : FVec Ideal S2x16384x512 .f32) (a2 : FVec Ideal S2x16384x1024 .f32) (a3 : FVec Ideal S2x6144 .f32)
    (a4 : FVec Ideal S1024 .f32) (a5 : FVec Ideal S1024x1024 .f32) (a6 : FVec Ideal S1024x16 .f32) (a7 : FVec Ideal S16 .f32)
    (h : fn (F := Ideal) a0 a1 a2 a3 a4 a5 a6 a7 = fun _ => 1#1) :
    (∀ j, IsReal (a0 j)) ∧ (∀ j, IsReal (a1 j)) ∧ (∀ j, IsReal (a2 j)) ∧ (∀ j, IsReal (a3 j)) ∧ (∀ j, IsReal (a4 j)) ∧ (∀ j, IsReal (a5 j))
      ∧ ∀ j, IsReal (a6 j) := by
  have hj := congrFun h (fun k => k.elim0)
  unfold fn fn_part1 at hj
  obtain ⟨h, h6⟩ := IntOp.andi_eq_one.1 hj
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun j => Cert.Finite.real_of_lt _ (Host.reduce_andi_all _ _ _ _ _ h0 j), fun j => Cert.Finite.real_of_lt _ (Host.reduce_andi_all _ _ _ _ _ h1 j),
    fun j => Cert.Finite.real_of_lt _ (Host.reduce_andi_all _ _ _ _ _ h2 j), fun j => Cert.Finite.real_of_lt _ (Host.reduce_andi_all _ _ _ _ _ h3 j),
    fun j => Cert.Finite.real_of_lt _ (Host.reduce_andi_all _ _ _ _ _ h4 j), fun j => Cert.Finite.real_of_lt _ (Host.reduce_andi_all _ _ _ _ _ h5 j),
    fun j => Cert.Finite.real_of_lt _ (Host.reduce_andi_all _ _ _ _ _ h6 j)⟩

end Read

end Cert.Finite3

end
-- ==== Proof.Same.lean ====
module

public import proofs.«01_k».proof.Defs
public import proofs.«01_k».proof.Proof.Gen.Kernel2.Frame
public import proofs.«01_k».proof.Proof.Gen.Kernel2Ideal.Value

/-! The third kernel is the second, run to return the result the second pair leaves out: the same operations on the same buffers.
    So its run is the second's. -/

@[expose] public section

set_option maxRecDepth 16384

noncomputable section

namespace Cert.Same

open Idealize.ShloMosaic Idealize.SL.Sem

theorem facts₀_Kernel3 : Cert.Kernel3.Facts₀ := by
  obtain ⟨⟩ := Cert.Kernel2.Gen.facts₀
  constructor <;> assumption

instance facts_Kernel3 : Cert.Kernel3.Facts := { toFacts₀ := facts₀_Kernel3 }

theorem facts₀_Kernel3Ideal : Cert.Kernel3Ideal.Facts₀ := by
  obtain ⟨⟩ := Cert.Kernel2Ideal.Gen.facts₀
  constructor <;> assumption

instance facts_Kernel3Ideal : Cert.Kernel3Ideal.Facts := { toFacts₀ := facts₀_Kernel3Ideal }

variable (F : FTy → Type) [FloatOps F]

set_option maxHeartbeats 2000000 in
/-- The two kernels' bodies are one. -/
theorem bodies : Cert.Kernel3.defs₀ (F := F) = Cert.Kernel2.defs₀ (F := F) := by
  funext p l a
  cases p with
  | tc =>
    match l, a with
    | 0, (t, s) => rfl
  | scScalar _ => rfl
  | scVector _ _ => rfl

/-- The two kernels' body tables are one. -/
theorem tables : Cert.Kernel3.defs (F := F) = Cert.Kernel2.defs (F := F) :=
  congrArg (Pipeline.defs (Cert.Kernel2.pcfgs (F := F))) (bodies F)

set_option maxHeartbeats 2000000 in
/-- The two idealized kernels' bodies are one. -/
theorem bodiesIdeal : Cert.Kernel3Ideal.defs₀ (F := F) = Cert.Kernel2Ideal.defs₀ (F := F) := by
  funext p l a
  cases p with
  | tc =>
    match l, a with
    | 0, (t, s) => rfl
  | scScalar _ => rfl
  | scVector _ _ => rfl

/-- The two idealized kernels' body tables are one. -/
theorem tablesIdeal : Cert.Kernel3Ideal.defs (F := F) = Cert.Kernel2Ideal.defs (F := F) :=
  congrArg (Pipeline.defs (Cert.Kernel2Ideal.pcfgs (F := F))) (bodiesIdeal F)

/-- The third kernel runs, leaves its arguments and comes to rest. -/
theorem quiescent_Kernel3 : quiescent_Kernel3 := fun m ρ _ => by
  rw [tables]
  exact Cert.Kernel2.Gen.frame m ρ

/-- The third idealized kernel runs, leaves its arguments and comes to rest. -/
theorem quiescent_Kernel3Ideal : quiescent_Kernel3Ideal := fun m ρ _ => by
  rw [tablesIdeal]
  exact Cert.Kernel2Ideal.Gen.frame m ρ

end Cert.Same
-- ==== Proof.PreRef.lean ====
module

public import proofs.«01_k».proof.Proof.Gen.Reference4Ideal.Run
public import Idealize.ShloMosaic.Lib.Pointwise
public import Idealize.ShloMosaic.Lib.Pipeline.ValueKit

/-! What the fourth reference computes, at an index: the values of the attention, and the Fourier branch's two channel images. -/

@[expose] public section

set_option maxRecDepth 16384

noncomputable section

namespace Cert.Pre

open Idealize.ShloMosaic Idealize.ShloMosaic.TcCoe Idealize.ShloMosaic.Tactic

/-- One over the root of a row's mean square, moved from zero; `n` is the row's length as a number. -/
def scale {N : ℕ} (f : Fin N → EReal) (n : EReal) : EReal :=
  Ideal.rsqrt (Ideal.div (∑ k, f k * f k) n + Ideal.ofBits .f32 0x358637BD#32)

variable (x : FVec Ideal Cert.Reference4Ideal.S2x16384x1024 .f32) (md : FVec Ideal Cert.Reference4Ideal.S2x6144 .f32)
  (gn : FVec Ideal Cert.Reference4Ideal.S1024 .f32) (w : FVec Ideal Cert.Reference4Ideal.S1024x928 .f32)
  (gv : FVec Ideal Cert.Reference4Ideal.S128 .f32) (wv : FVec Ideal Cert.Reference4Ideal.S128x1024 .f32)
  (mf : FVec Ideal Cert.Reference4Ideal.S512x1024 .f32)

/-- The normalised, scaled and shifted input. -/
def inp (b : Fin 2) (i : Fin 16384) (k : Fin 1024) : EReal :=
  x (ix3 b i k) * scale (fun k => x (ix3 b i k)) (Ideal.ofBits .f32 0x44800000#32) * gn (ix1 k)
      * (Ideal.ofBits .f32 0x3F800000#32 + md (ix2 b ⟨1024 + k.val, by omega⟩))
    + md (ix2 b ⟨k.val, by omega⟩)

/-- The input's projection. -/
def proj (b : Fin 2) (i : Fin 16384) (j : Fin 928) : EReal := ∑ k : Fin 1024, inp x md gn b i k * w (ix2 k j)

/-- The columns of the projection that the keys and the values are made of. -/
def lat (b : Fin 2) (i : Fin 16384) (k : Fin 128) : EReal := proj x md gn w b i ⟨256 + k.val, by omega⟩

/-- A value: head `h`, entry `d`. -/
def val (b : Fin 2) (i : Fin 16384) (h : Fin 8) (d : Fin 64) : EReal :=
  ∑ k : Fin 128, lat x md gn w b i k * scale (lat x md gn w b i) (Ideal.ofBits .f32 0x43000000#32) * gv (ix1 k)
    * wv (ix2 k ⟨h.val * 128 + (64 + d.val), by omega⟩)

/-- A channel image of the Fourier branch: the real part, then the imaginary. -/
def four (b s : Fin 2) (i : Fin 16384) (j : Fin 512) : EReal :=
  ∑ k : Fin 512, proj x md gn w b i ⟨416 + k.val, by omega⟩ * mf (ix2 k ⟨s.val * 512 + j.val, by omega⟩)

end Cert.Pre

namespace Cert.Reference4Ideal.At

open Idealize.ShloMosaic Idealize.ShloMosaic.TcCoe Idealize.ShloMosaic.Tactic Idealize.SL.Sem
open Cert.Reference4Ideal.Gen

/-- The reference's normalised, scaled and shifted input. -/
abbrev Inp (x : FVec Ideal S2x16384x1024 .f32) (md : FVec Ideal S2x6144 .f32) (gn : FVec Ideal S1024 .f32) : FVec Ideal S2x16384x1024 .f32 :=
  addf (mulf (mulf (mulf x (broadcastInDim S2x16384x1024 ![0, 1, 2] bcast_S2x16384x1_S2x16384x1024_0_1_2
        (Host.rsqrt (addf (Host.divf (broadcastInDim S2x16384x1 ![0, 1] bcast_S2x16384_S2x16384x1_0_1
            (Host.reduceAdd (mulf x x) (constant S_ .f32 0x00000000#32) reducesTo_S2x16384x1024_S2x16384_d2 h_S_))
          (broadcastInDim S2x16384x1 ![] bcast_S_S2x16384x1 (constant S_ .f32 0x44800000#32)))
          (broadcastInDim S2x16384x1 ![] bcast_S_S2x16384x1 (constant S_ .f32 0x358637BD#32))))))
        (broadcastInDim S2x16384x1024 ![0, 1, 2] bcast_S1x1x1024_S2x16384x1024_0_1_2 (broadcastInDim S1x1x1024 ![2] bcast_S1024_S1x1x1024_2 gn)))
        (broadcastInDim S2x16384x1024 ![0, 1, 2] bcast_S2x1x1024_S2x16384x1024_0_1_2
          (addf (broadcastInDim S2x1x1024 ![] bcast_S_S2x1x1024 (constant S_ .f32 0x3F800000#32))
            (extractStridedSlice S2x1x1024 ![0, 0, 1024] (broadcastInDim S2x1x6144 ![0, 2] bcast_S2x6144_S2x1x6144_0_2 md) slices_S2x1x6144_S2x1x1024_0_0_1024))))
        (broadcastInDim S2x16384x1024 ![0, 1, 2] bcast_S2x1x1024_S2x16384x1024_0_1_2
          (extractStridedSlice S2x1x1024 ![0, 0, 0] (broadcastInDim S2x1x6144 ![0, 2] bcast_S2x6144_S2x1x6144_0_2 md) slices_S2x1x6144_S2x1x1024_0_0_0))

theorem inp_at (x : FVec Ideal S2x16384x1024 .f32) (md : FVec Ideal S2x6144 .f32) (gn : FVec Ideal S1024 .f32)
    (b : Fin 2) (i : Fin 16384) (k : Fin 1024) : Inp x md gn (ix3 b i k) = Cert.Pre.inp x md gn b i k := by
  pointwise [Inp, Cert.Pre.inp, Cert.Pre.scale]

/-- The reference's projection of the input. -/
abbrev Proj (x : FVec Ideal S2x16384x1024 .f32) (md : FVec Ideal S2x6144 .f32) (gn : FVec Ideal S1024 .f32) (w : FVec Ideal S1024x928 .f32) :
    FVec Ideal S2x16384x928 .f32 :=
  Host.dotGeneral dot_S2x16384x1024_S1024x928_S2x16384x928_2_0_01_1_n_n none (Inp x md gn) w

theorem dot_at (H : FVec Ideal S2x16384x1024 .f32) (w : FVec Ideal S1024x928 .f32) (b : Fin 2) (i : Fin 16384) (j : Fin 928) :
    (Host.dotGeneral dot_S2x16384x1024_S1024x928_S2x16384x928_2_0_01_1_n_n none H w : FVec Ideal S2x16384x928 .f32) (ix3 b i j)
      = ∑ k : Fin 1024, H (ix3 b i k) * w (ix2 k j) := by
  pointwise

theorem proj_at (x : FVec Ideal S2x16384x1024 .f32) (md : FVec Ideal S2x6144 .f32) (gn : FVec Ideal S1024 .f32) (w : FVec Ideal S1024x928 .f32)
    (b : Fin 2) (i : Fin 16384) (j : Fin 928) : Proj x md gn w (ix3 b i j) = Cert.Pre.proj x md gn w b i j :=
  (dot_at _ w b i j).trans (Finset.sum_congr rfl fun k _ => congrArg (fun y : EReal => y * w (ix2 k j)) (inp_at x md gn b i k))

/-- The columns of a projection that the values are made of. -/
abbrev Lat (X : FVec Ideal S2x16384x928 .f32) : FVec Ideal S2x16384x128 .f32 :=
  extractStridedSlice S2x16384x128 ![0, 0, 256] X slices_S2x16384x928_S2x16384x128_0_0_256

theorem lat_at (X : FVec Ideal S2x16384x928 .f32) (b : Fin 2) (i : Fin 16384) (k : Fin 128) :
    Lat X (ix3 b i k) = X (ix3 b i ⟨256 + k.val, by omega⟩) := by
  pointwise [Lat]

/-- A value, from the columns it is made of. -/
theorem val_at (C : FVec Ideal S2x16384x128 .f32) (gv : FVec Ideal S128 .f32) (wv : FVec Ideal S128x1024 .f32)
    (b : Fin 2) (i : Fin 16384) (h : Fin 8) (d : Fin 64) :
    (truncf .bf16 (shapeCast S2x16384x512 (extractStridedSlice S2x16384x8x64 ![0, 0, 0, 64] (shapeCast S2x16384x8x128
        (Host.dotGeneral dot_S2x16384x128_S128x1024_S2x16384x1024_2_0_01_1_n_n none
          (mulf (mulf C (broadcastInDim S2x16384x128 ![0, 1, 2] bcast_S2x16384x1_S2x16384x128_0_1_2
            (Host.rsqrt (addf (Host.divf (broadcastInDim S2x16384x1 ![0, 1] bcast_S2x16384_S2x16384x1_0_1
                (Host.reduceAdd (mulf C C) (constant S_ .f32 0x00000000#32) reducesTo_S2x16384x128_S2x16384_d2 h_S_))
              (broadcastInDim S2x16384x1 ![] bcast_S_S2x16384x1 (constant S_ .f32 0x43000000#32)))
              (broadcastInDim S2x16384x1 ![] bcast_S_S2x16384x1 (constant S_ .f32 0x358637BD#32))))))
            (broadcastInDim S2x16384x128 ![0, 1, 2] bcast_S1x1x128_S2x16384x128_0_1_2 (broadcastInDim S1x1x128 ![2] bcast_S128_S1x1x128_2 gv))) wv)
        shapeCasts_S2x16384x1024_S2x16384x8x128) slices_S2x16384x8x128_S2x16384x8x64_0_0_0_64) shapeCasts_S2x16384x8x64_S2x16384x512) bitsLt_bf16_f32
      : FVec Ideal S2x16384x512 .bf16) (ix3 b i ⟨64 * h.val + d.val, by omega⟩)
      = ∑ k : Fin 128, C (ix3 b i k) * Cert.Pre.scale (fun k => C (ix3 b i k)) (Ideal.ofBits .f32 0x43000000#32) * gv (ix1 k)
          * wv (ix2 k ⟨h.val * 128 + (64 + d.val), by omega⟩) := by
  pointwise [Cert.Pre.scale]

/-- A channel image, from the projection. -/
theorem four_at (X : FVec Ideal S2x16384x928 .f32) (mf : FVec Ideal S512x1024 .f32) (b s : Fin 2) (i : Fin 16384) (j : Fin 512) :
    (truncf .bf16 (transpose S2x2x16384x512 [0, 2, 1, 3] (shapeCast S2x16384x2x512
        (Host.dotGeneral dot_S2x16384x512_S512x1024_S2x16384x1024_2_0_01_1_n_n none
          (extractStridedSlice S2x16384x512 ![0, 0, 416] X slices_S2x16384x928_S2x16384x512_0_0_416) mf)
        shapeCasts_S2x16384x1024_S2x16384x2x512) transposes_S2x16384x2x512_S2x2x16384x512_0_2_1_3) bitsLt_bf16_f32
      : FVec Ideal S2x2x16384x512 .bf16) (ix4 b s i j)
      = ∑ k : Fin 512, X (ix3 b i ⟨416 + k.val, by omega⟩) * mf (ix2 k ⟨s.val * 512 + j.val, by omega⟩) := by
  pointwise

/-- The fourth reference's run: its two results, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (b : Fin 2) (i : Fin 16384) (h : Fin 8) (d : Fin 64),
        r.2.mem ((c.tc : Thread nD τ).loc main_v51) (ix3 b i ⟨64 * h.val + d.val, by omega⟩)
          = Cert.Pre.val (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg6)) (m ((c.tc : Thread nD τ).loc main_arg7)) b i h d)
      ∧ (∀ (b s : Fin 2) (i : Fin 16384) (j : Fin 512),
        r.2.mem ((c.tc : Thread nD τ).loc main_v52) (ix4 b s i j)
          = Cert.Pre.four (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg10)) b s i j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r hr c => ⟨fun b i h d => ?_, fun b s i j => ?_, (hr c).2.2⟩) (Value.run (F := Ideal) m ρ)
  · rw [(hr c).1]
    refine (val_at (Lat (Proj (m ((c.tc : Thread nD τ).loc main_arg0)) (m ((c.tc : Thread nD τ).loc main_arg1))
      (m ((c.tc : Thread nD τ).loc main_arg2)) (m ((c.tc : Thread nD τ).loc main_arg3)))) _ _ b i h d).trans ?_
    unfold Cert.Pre.val
    have e : ∀ k, Lat (Proj (m ((c.tc : Thread nD τ).loc main_arg0)) (m ((c.tc : Thread nD τ).loc main_arg1))
      (m ((c.tc : Thread nD τ).loc main_arg2)) (m ((c.tc : Thread nD τ).loc main_arg3))) (ix3 b i k) = _ :=
      fun k => (lat_at _ b i k).trans (proj_at _ _ _ _ b i _)
    simp only [e]
    rfl
  · rw [(hr c).2.1]
    refine (four_at (Proj (m ((c.tc : Thread nD τ).loc main_arg0)) (m ((c.tc : Thread nD τ).loc main_arg1))
      (m ((c.tc : Thread nD τ).loc main_arg2)) (m ((c.tc : Thread nD τ).loc main_arg3))) _ b s i j).trans ?_
    exact Finset.sum_congr rfl fun k _ => congrArg (fun y : EReal => y * _) (proj_at _ _ _ _ b i _)

end Cert.Reference4Ideal.At
-- ==== Proof.PreBlock.lean ====
module

public import proofs.«01_k».proof.Proof.Gen.Kernel4Ideal.Value
public import proofs.«01_k».proof.Proof.PreRef
public import Idealize.ShloMosaic.Lib.Pointwise
public import Idealize.ShloMosaic.Lib.Pipeline.ValueKit
public import Idealize.ShloMosaic.Lib.StableHlo.ReadAt

/-! What one point of the fourth kernel computes over its blocks, at an index. -/

@[expose] public section

set_option maxRecDepth 16384

noncomputable section

namespace Cert.Kernel4Ideal.Block

open Idealize.ShloMosaic Idealize.ShloMosaic.TcCoe Idealize.ShloMosaic.Tactic
open Cert.Kernel4Ideal.Gen

/-- A block's normalised, scaled and shifted rows. -/
def inp (x : Vec Ideal S1x512x1024 .f32) (g : Vec Ideal S1x1024 .f32) (sc sh : Vec Ideal S1x1x1024 .f32) (r : Fin 512) (k : Fin 1024) : EReal :=
  x (ix3 0 r k) * Cert.Pre.scale (fun k => x (ix3 0 r k)) (Ideal.ofBits .f32 0x44800000#32) * g (ix2 0 k)
      * (Ideal.ofBits .f32 0x3F800000#32 + sc (ix3 0 0 k)) + sh (ix3 0 0 k)

/-- The projection of a block, at a row and a column. -/
theorem proj_at (x : Vec Ideal S1x512x1024 .f32) (g : Vec Ideal S1x1024 .f32) (sc sh : Vec Ideal S1x1x1024 .f32) (w : Vec Ideal S1024x1152 .bf16)
    (r : Fin 512) (j : Fin 1152) :
    k0_pay4 x g sc sh w (ix2 r j) = ∑ k : Fin 1024, inp x g sc sh r k * w (ix2 k j) := by
  pointwise [k0_pay4, inp, Cert.Pre.scale]

/-- The columns of the projection that the values are made of. -/
theorem lat_at (x : Vec Ideal S1x512x1024 .f32) (g : Vec Ideal S1x1024 .f32) (sc sh : Vec Ideal S1x1x1024 .f32) (w : Vec Ideal S1024x1152 .bf16)
    (r : Fin 512) (k : Fin 128) :
    k0_pay6 x g sc sh w (ix2 r k) = k0_pay4 x g sc sh w (ix2 r ⟨256 + k.val, by omega⟩) := by
  unfold k0_pay6
  generalize k0_pay4 x g sc sh w = X
  pointwise

/-- The columns of the projection that the Fourier branch takes. -/
theorem chan_at (x : Vec Ideal S1x512x1024 .f32) (g : Vec Ideal S1x1024 .f32) (sc sh : Vec Ideal S1x1x1024 .f32) (w : Vec Ideal S1024x1152 .bf16)
    (r k : Fin 512) :
    k0_pay24 (k0_pay9 x g sc sh w) (ix2 r k) = k0_pay4 x g sc sh w (ix2 r ⟨640 + k.val, by omega⟩) := by
  unfold k0_pay24 k0_pay9
  generalize k0_pay4 x g sc sh w = X
  pointwise

/-- The normalised columns. -/
theorem norm_at (C : FVec Ideal S512x128 .f32) (g : Vec Ideal S1x128 .f32) (r : Fin 512) (k : Fin 128) :
    k0_pay17 C g (ix2 r k) = C (ix2 r k) * Cert.Pre.scale (fun k => C (ix2 r k)) (Ideal.ofBits .f32 0x43000000#32) * g (ix2 0 k) := by
  pointwise [k0_pay17, Cert.Pre.scale]

/-- A block of values, from the normalised columns. -/
theorem val_at (N : FVec Ideal S512x128 .bf16) (w : Vec Ideal S128x512 .bf16) (r j : Fin 512) :
    k0_pay23 N w (ix3 0 r j) = ∑ k : Fin 128, N (ix2 r k) * w (ix2 k j) := by
  pointwise [k0_pay23]

/-- The two channel images of a block. -/
theorem mix_at (N : FVec Ideal S512x512 .bf16) (w : Vec Ideal S512x1024 .bf16) (r : Fin 512) (j : Fin 1024) :
    k0_pay1 N w (ix2 r j) = ∑ k : Fin 512, N (ix2 r k) * w (ix2 k j) := by
  pointwise [k0_pay1]

theorem re_at (N : FVec Ideal S512x512 .bf16) (w : Vec Ideal S512x1024 .bf16) (r j : Fin 512) :
    k0_pay2 N w (ix4 0 0 r j) = k0_pay1 N w (ix2 r ⟨j.val, by omega⟩) := by
  unfold k0_pay2
  generalize k0_pay1 N w = X
  pointwise

theorem im_at (N : FVec Ideal S512x512 .bf16) (w : Vec Ideal S512x1024 .bf16) (r j : Fin 512) :
    k0_pay3 N w (ix4 0 0 r j) = k0_pay1 N w (ix2 r ⟨512 + j.val, by omega⟩) := by
  unfold k0_pay3
  generalize k0_pay1 N w = X
  pointwise

end Cert.Kernel4Ideal.Block
-- ==== Proof.PrePoint.lean ====
module

public import proofs.«01_k».proof.Proof.PreBlock

/-! What the fourth kernel's last two arrays hold after its run, at an index, as functions of the arguments. -/

@[expose] public section

set_option maxRecDepth 16384

noncomputable section

namespace Cert.Kernel4Ideal.Point

open Idealize.ShloMosaic Idealize.ShloMosaic.TcCoe Idealize.ShloMosaic.Tactic
open Cert.Kernel4Ideal.Gen

theorem off2 : (![0, 0] : Fin 2 → ℕ) = fun _ => 0 := by decide
theorem off3 : (![0, 0, 0] : Fin 3 → ℕ) = fun _ => 0 := by decide

section Blocks

variable (x0 : Vec Ideal S1x512x1024 .f32) (x1 x2 : Vec Ideal S1x1x1024 .f32) (x3 : Vec Ideal S1x1024 .f32) (x4 : Vec Ideal S1024x1152 .bf16)
  (x5 : Vec Ideal S1x256 .f32) (x6 x7 : Vec Ideal S256x1024 .bf16) (x8 : Vec Ideal S1x128 .f32) (x9 : Vec Ideal S128x1024 .bf16)
  (x10 : Vec Ideal S128x512 .bf16) (x11 : Vec Ideal S256x256 .bf16) (x12 x13 : Vec Ideal S512x128 .f32) (x14 x15 x16 x17 : Vec Ideal S1x1024 .f32)
  (x18 : Vec Ideal S512x1024 .bf16)

/-- A block's projection. -/
def proj (r : Fin 512) (j : Fin 1152) : EReal := ∑ k : Fin 1024, Block.inp x0 x3 x2 x1 r k * x4 (ix2 k j)

/-- A point's projection, at an index. -/
theorem pay4_at (r : Fin 512) (j : Fin 1152) :
    k0_pay4 (View.ld x0 r0_0) (View.ld x3 r0_1) (View.ld x2 r0_2) (View.ld x1 r0_2) (View.ld x4 r0_3) (ix2 r j) = proj x0 x1 x2 x3 x4 r j := by
  have e0 : View.ld x0 r0_0 = x0 := View.ld_unit_zero off3 _ x0
  have e1 : View.ld x1 r0_2 = x1 := View.ld_unit_zero off3 _ x1
  have e2 : View.ld x2 r0_2 = x2 := View.ld_unit_zero off3 _ x2
  have e3 : View.ld x3 r0_1 = x3 := View.ld_unit_zero off2 _ x3
  have e4 : View.ld x4 r0_3 = x4 := View.ld_unit_zero off2 _ x4
  rw [e0, e1, e2, e3, e4]
  exact Block.proj_at _ _ _ _ _ r j

/-- The block of values a point leaves, at an index. -/
theorem out21_at (r j : Fin 512) :
    out0_21 x0 x1 x2 x3 x4 x5 x6 x7 x8 x9 x10 x11 x12 x13 x14 x15 x16 x17 x18 (ix3 0 r j)
      = ∑ k : Fin 128, proj x0 x1 x2 x3 x4 r ⟨256 + k.val, by omega⟩
          * Cert.Pre.scale (fun k : Fin 128 => proj x0 x1 x2 x3 x4 r ⟨256 + k.val, by omega⟩) (Ideal.ofBits .f32 0x43000000#32)
          * x8 (ix2 0 k) * x10 (ix2 k j) := by
  unfold out0_21
  rw [View.canon_unit_zero off3]
  have e8 : View.ld x8 r0_8 = x8 := View.ld_unit_zero off2 _ x8
  have e10 : View.ld x10 r0_10 = x10 := View.ld_unit_zero off2 _ x10
  rw [e8, e10]
  have e : ∀ k, k0_pay26 x0 x1 x2 x3 x4 x5 x6 x7 x8 x9 x10 x11 x12 x13 x14 x15 x16 x17 x18 (ix2 r k) = proj x0 x1 x2 x3 x4 r ⟨256 + k.val, by omega⟩ :=
    fun k => by
      unfold k0_pay26
      exact (Block.lat_at _ _ _ _ _ r k).trans (pay4_at x0 x1 x2 x3 x4 r _)
  generalize k0_pay26 x0 x1 x2 x3 x4 x5 x6 x7 x8 x9 x10 x11 x12 x13 x14 x15 x16 x17 x18 = C at e ⊢
  refine (Block.val_at _ _ r j).trans ?_
  refine Finset.sum_congr rfl fun k _ => congrArg (fun y : EReal => y * x10 (ix2 k j)) ?_
  refine (Block.norm_at C x8 r k).trans ?_
  simp only [e]

/-- The two images, as they are stored, are the two halves of one product. -/
theorem images_at (P0 : Vec Ideal S1x512x1024 .f32) (P1 : Vec Ideal S1x1024 .f32) (P2 P3 : Vec Ideal S1x1x1024 .f32) (P4 : Vec Ideal S1024x1152 .bf16)
    (P5 : Vec Ideal S512x1024 .bf16) (s : Fin 2) (r j : Fin 512) :
    (View.canon [⟨r0_14, k0_pay3 (k0_pay24 (k0_pay9 P0 P1 P2 P3 P4)) P5⟩, ⟨r0_13, k0_pay2 (k0_pay24 (k0_pay9 P0 P1 P2 P3 P4)) P5⟩]
      : Vec Ideal S1x2x512x512 .bf16) (ix4 0 s r j)
      = k0_pay1 (k0_pay24 (k0_pay9 P0 P1 P2 P3 P4)) P5 (ix2 r ⟨s.val * 512 + j.val, by omega⟩) := by
  refine (Value.canon22_eq P0 P1 P2 P3 P4 P5 (ix4 0 s r j)).trans ?_
  have ei : Value.ix22_0 (ix4 0 s r j) = ix2 r ⟨s.val * 512 + j.val, by omega⟩ := by
    funext a
    match a with
    | ⟨0, _⟩ => rfl
    | ⟨1, _⟩ => rfl
  unfold Value.E22 k0_pay24 k0_pay9
  rw [ei]
  generalize k0_pay1 _ P5 = X
  rfl

/-- The block of channel images a point leaves, at an index. -/
theorem out22_at (s : Fin 2) (r j : Fin 512) :
    out0_22 x0 x1 x2 x3 x4 x5 x6 x7 x8 x9 x10 x11 x12 x13 x14 x15 x16 x17 x18 (ix4 0 s r j)
      = ∑ k : Fin 512, proj x0 x1 x2 x3 x4 r ⟨640 + k.val, by omega⟩ * x18 (ix2 k ⟨s.val * 512 + j.val, by omega⟩) := by
  unfold out0_22 k0_pay30
  refine (images_at _ _ _ _ _ _ s r j).trans ?_
  refine (Block.mix_at _ _ r _).trans ?_
  have e18 : View.ld x18 r0_12 = x18 := View.ld_unit_zero off2 _ x18
  rw [e18]
  exact Finset.sum_congr rfl fun k _ => congrArg (fun y : EReal => y * _) ((Block.chan_at _ _ _ _ _ r k).trans (pay4_at x0 x1 x2 x3 x4 r _))

end Blocks

section Arrays

variable (m : (ℓ : Loc nD τ sig) → Buf (Elt Ideal) ℓ) (c : Dev nD)

/-- The array indices of the windows' blocks, over the point. -/
theorem idx0 (t : Fin cfg0.N) : win0_0.index t = ![t.val / 32, t.val % 32, 0] :=
  (by decide +kernel : ∀ t : Fin grid0.N, win0_0.index t = ![t.val / 32, t.val % 32, 0]) t
theorem idx1 (t : Fin cfg0.N) : win0_1.index t = ![t.val / 32, 0, 0] :=
  (by decide +kernel : ∀ t : Fin grid0.N, win0_1.index t = ![t.val / 32, 0, 0]) t
theorem idx2 (t : Fin cfg0.N) : win0_2.index t = ![t.val / 32, 0, 0] :=
  (by decide +kernel : ∀ t : Fin grid0.N, win0_2.index t = ![t.val / 32, 0, 0]) t
theorem idx3 (t : Fin cfg0.N) : win0_3.index t = ![0, 0] :=
  (by decide +kernel : ∀ t : Fin grid0.N, win0_3.index t = ![0, 0]) t
theorem idx4 (t : Fin cfg0.N) : win0_4.index t = ![0, 0] :=
  (by decide +kernel : ∀ t : Fin grid0.N, win0_4.index t = ![0, 0]) t
theorem idx8 (t : Fin cfg0.N) : win0_8.index t = ![0, 0] :=
  (by decide +kernel : ∀ t : Fin grid0.N, win0_8.index t = ![0, 0]) t
theorem idx10 (t : Fin cfg0.N) : win0_10.index t = ![0, 0] :=
  (by decide +kernel : ∀ t : Fin grid0.N, win0_10.index t = ![0, 0]) t
theorem idx18 (t : Fin cfg0.N) : win0_18.index t = ![0, 0] :=
  (by decide +kernel : ∀ t : Fin grid0.N, win0_18.index t = ![0, 0]) t
theorem idx21 (t : Fin cfg0.N) : win0_21.index t = ![t.val / 32, t.val % 32, 0] :=
  (by decide +kernel : ∀ t : Fin grid0.N, win0_21.index t = ![t.val / 32, t.val % 32, 0]) t
theorem idx22 (t : Fin cfg0.N) : win0_22.index t = ![t.val / 32, 0, t.val % 32, 0] :=
  (by decide +kernel : ∀ t : Fin grid0.N, win0_22.index t = ![t.val / 32, 0, t.val % 32, 0]) t

/-- The arrays the call reads, at an index, over the arguments. -/
theorem ent1 (b : Fin 2) (j : Fin 1024) : V m c main_v95 (ix3 b 0 j) = m (c.tc.loc main_arg1) (ix2 b ⟨j.val, by omega⟩) := by
  unfold V
  after_reads_at
theorem ent2 (b : Fin 2) (j : Fin 1024) : V m c main_v97 (ix3 b 0 j) = m (c.tc.loc main_arg1) (ix2 b ⟨1024 + j.val, by omega⟩) := by
  unfold V
  after_reads_at
theorem ent3 (j : Fin 1024) : V m c main_v82 (ix2 0 j) = m (c.tc.loc main_arg2) (ix1 j) := by
  unfold V
  after_reads_at
theorem ent8 (j : Fin 128) : V m c main_v89 (ix2 0 j) = m (c.tc.loc main_arg6) (ix1 j) := by
  unfold V
  after_reads_at
theorem ent10 (k : Fin 128) (h : Fin 8) (d : Fin 64) :
    V m c main_v91 (ix2 k ⟨64 * h.val + d.val, by omega⟩) = m (c.tc.loc main_arg7) (ix2 k ⟨h.val * 128 + (64 + d.val), by omega⟩) := by
  unfold V
  after_reads_at
  exact congrArg (fun q => m (c.tc.loc main_arg7) (ix2 k q)) (Fin.ext (by show (64 * h.val + d.val) / 64 * 128 + (64 + (64 * h.val + d.val) % 64) = h.val * 128 + (64 + d.val); omega))
theorem ent18 (k : Fin 512) (j : Fin 1024) : V m c main_v92 (ix2 k j) = m (c.tc.loc main_arg10) (ix2 k j) := by
  unfold V
  after_reads_at
theorem ent4_lat (k : Fin 1024) (j : Fin 128) :
    V m c main_v83 (ix2 k ⟨256 + j.val, by omega⟩) = m (c.tc.loc main_arg3) (ix2 k ⟨256 + j.val, by omega⟩) := by
  unfold V
  after_reads_at
  rw [dif_pos (by omega)]
  after_reads_at
theorem ent4_chan (k : Fin 1024) (j : Fin 512) :
    V m c main_v83 (ix2 k ⟨640 + j.val, by omega⟩) = m (c.tc.loc main_arg3) (ix2 k ⟨416 + j.val, by omega⟩) := by
  unfold V
  after_reads_at
  rw [dif_neg (by omega), dif_neg (by omega), dif_neg (by omega)]
  after_reads_at
  exact congrArg (fun q => m (c.tc.loc main_arg3) (ix2 k q)) (Fin.ext (by show 416 + (640 + j.val - 384 - 128 - 128) = 416 + j.val; omega))

/-- A point's projection is the reference's, at the point's batch and row, where a column is one of the weights'. -/
theorem proj_eq (b : Fin 2) (i : Fin 16384) (r : Fin 512) (x0 : Vec Ideal S1x512x1024 .f32) (x1 x2 : Vec Ideal S1x1x1024 .f32) (x3 : Vec Ideal S1x1024 .f32)
    (x4 : Vec Ideal S1024x1152 .bf16) (x : FVec Ideal Cert.Reference4Ideal.S2x16384x1024 .f32) (md : FVec Ideal Cert.Reference4Ideal.S2x6144 .f32)
    (gn : FVec Ideal Cert.Reference4Ideal.S1024 .f32) (w : FVec Ideal Cert.Reference4Ideal.S1024x928 .f32)
    (h0 : ∀ k, x0 (ix3 0 r k) = x (ix3 b i k)) (h1 : ∀ k : Fin 1024, x1 (ix3 0 0 k) = md (ix2 b ⟨k.val, by omega⟩))
    (h2 : ∀ k : Fin 1024, x2 (ix3 0 0 k) = md (ix2 b ⟨1024 + k.val, by omega⟩)) (h3 : ∀ k, x3 (ix2 0 k) = gn (ix1 k))
    (j : Fin 1152) (j' : Fin 928) (h4 : ∀ k, x4 (ix2 k j) = w (ix2 k j')) :
    proj x0 x1 x2 x3 x4 r j = Cert.Pre.proj x md gn w b i j' := by
  unfold proj Cert.Pre.proj
  refine Finset.sum_congr rfl fun k _ => congrArg₂ (fun y z : EReal => y * z) ?_ (h4 k)
  unfold Block.inp Cert.Pre.inp
  simp only [h0, h1, h2, h3]

theorem batch_lt (t : Fin cfg0.N) : t.val / 32 < 2 := by have := lt_of_lt_of_eq t.isLt N_0; omega
theorem row_lt (t : Fin cfg0.N) (r : Fin 512) : 512 * (t.val % 32) + r.val < 16384 := by omega

variable (t : Fin cfg0.N) (b : Fin 2) (i : Fin 16384) (r : Fin 512) (hb : t.val / 32 = b.val) (hi : 512 * (t.val % 32) + r.val = i.val)

include hb hi in
/-- A point's block of the layer's input. -/
theorem blk0 (X : Buf (Elt Ideal) (c.tc.loc main_arg0 : Loc nD τ sig)) (k : Fin 1024) :
    View.read (Elt Ideal) ((cfg0.win 0).blk t).view X (ix3 0 r k : S1x512x1024.Idx) = X (ix3 b i k) := by
  obtain rfl : b = ⟨t.val / 32, batch_lt t⟩ := Fin.ext hb.symm
  obtain rfl : i = ⟨512 * (t.val % 32) + r.val, row_lt t r⟩ := Fin.ext hi.symm
  blk_ext [idx0 t]

include hb in
/-- A point's block of the shift. -/
theorem blk1 (X : Buf (Elt Ideal) (c.tc.loc main_v95 : Loc nD τ sig)) (k : Fin 1024) :
    View.read (Elt Ideal) ((cfg0.win 1).blk t).view X (ix3 0 0 k : S1x1x1024.Idx) = X (ix3 b 0 k) := by
  obtain rfl : b = ⟨t.val / 32, batch_lt t⟩ := Fin.ext hb.symm
  blk_ext [idx1 t]

include hb in
/-- A point's block of the scale. -/
theorem blk2 (X : Buf (Elt Ideal) (c.tc.loc main_v97 : Loc nD τ sig)) (k : Fin 1024) :
    View.read (Elt Ideal) ((cfg0.win 2).blk t).view X (ix3 0 0 k : S1x1x1024.Idx) = X (ix3 b 0 k) := by
  obtain rfl : b = ⟨t.val / 32, batch_lt t⟩ := Fin.ext hb.symm
  blk_ext [idx2 t]

/-- A point's blocks of the weights are the weights. -/
theorem blk3 (X : Buf (Elt Ideal) (c.tc.loc main_v82 : Loc nD τ sig)) (k : Fin 1024) :
    View.read (Elt Ideal) ((cfg0.win 3).blk t).view X (ix2 0 k : S1x1024.Idx) = X (ix2 0 k) := by
  blk_ext [idx3 t]
theorem blk4 (X : Buf (Elt Ideal) (c.tc.loc main_v83 : Loc nD τ sig)) (k : Fin 1024) (j : Fin 1152) :
    View.read (Elt Ideal) ((cfg0.win 4).blk t).view X (ix2 k j : S1024x1152.Idx) = X (ix2 k j) := by
  blk_ext [idx4 t]
theorem blk8 (X : Buf (Elt Ideal) (c.tc.loc main_v89 : Loc nD τ sig)) (k : Fin 128) :
    View.read (Elt Ideal) ((cfg0.win 8).blk t).view X (ix2 0 k : S1x128.Idx) = X (ix2 0 k) := by
  blk_ext [idx8 t]
theorem blk10 (X : Buf (Elt Ideal) (c.tc.loc main_v91 : Loc nD τ sig)) (k : Fin 128) (j : Fin 512) :
    View.read (Elt Ideal) ((cfg0.win 10).blk t).view X (ix2 k j : S128x512.Idx) = X (ix2 k j) := by
  blk_ext [idx10 t]
theorem blk18 (X : Buf (Elt Ideal) (c.tc.loc main_v92 : Loc nD τ sig)) (k : Fin 512) (j : Fin 1024) :
    View.read (Elt Ideal) ((cfg0.win 18).blk t).view X (ix2 k j : S512x1024.Idx) = X (ix2 k j) := by
  blk_ext [idx18 t]

include hb hi in
/-- A point's block of the third result. -/
theorem blk21 (X : Buf (Elt Ideal) (c.tc.loc main_v98_2 : Loc nD τ sig)) (j : Fin 512) :
    View.read (Elt Ideal) ((cfg0.win 21).blk t).view X (ix3 0 r j : S1x512x512.Idx) = X (ix3 b i j) := by
  obtain rfl : b = ⟨t.val / 32, batch_lt t⟩ := Fin.ext hb.symm
  obtain rfl : i = ⟨512 * (t.val % 32) + r.val, row_lt t r⟩ := Fin.ext hi.symm
  blk_ext [idx21 t]

include hb hi in
/-- A point's block of the fourth result. -/
theorem blk22 (X : Buf (Elt Ideal) (c.tc.loc main_v98_3 : Loc nD τ sig)) (s : Fin 2) (j : Fin 512) :
    View.read (Elt Ideal) ((cfg0.win 22).blk t).view X (ix4 0 s r j : S1x2x512x512.Idx) = X (ix4 b s i j) := by
  obtain rfl : b = ⟨t.val / 32, batch_lt t⟩ := Fin.ext hb.symm
  obtain rfl : i = ⟨512 * (t.val % 32) + r.val, row_lt t r⟩ := Fin.ext hi.symm
  blk_ext [idx22 t]

include hb hi in
/-- A point's projection, over the arguments, where a column is one of the weights'. -/
theorem point_proj (j : Fin 1152) (j' : Fin 928) (h4 : ∀ k, V m c main_v83 (ix2 k j) = m (c.tc.loc main_arg3) (ix2 k j')) :
    proj (iblk m c 0 t) (iblk m c 1 t) (iblk m c 2 t) (iblk m c 3 t) (iblk m c 4 t) r j
      = Cert.Pre.proj (m (c.tc.loc main_arg0)) (m (c.tc.loc main_arg1)) (m (c.tc.loc main_arg2)) (m (c.tc.loc main_arg3)) b i j' :=
  proj_eq b i r _ _ _ _ _ _ _ _ _
    (fun k => (blk0 c t b i r hb hi (V m c main_arg0) k).trans (congrFun (V_main_arg0 m c) _))
    (fun k => (blk1 c t b hb (V m c main_v95) k).trans (ent1 m c b k))
    (fun k => (blk2 c t b hb (V m c main_v97) k).trans (ent2 m c b k))
    (fun k => (blk3 c t (V m c main_v82) k).trans (ent3 m c k)) j j'
    (fun k => (blk4 c t (V m c main_v83) k j).trans (h4 k))

end Arrays

section Results

variable (m : (ℓ : Loc nD τ sig) → Buf (Elt Ideal) ℓ) (c : Dev nD)

/-- The point that computes a batch's row. -/
theorem point_of (b : Fin 2) (i : Fin 16384) : ∃ (t : Fin cfg0.N) (r : Fin 512), t.val / 32 = b.val ∧ 512 * (t.val % 32) + r.val = i.val :=
  ⟨⟨32 * b.val + i.val / 512, lt_of_lt_of_eq (show _ < 64 by omega) N_0.symm⟩, ⟨i.val % 512, by omega⟩,
    show (32 * b.val + i.val / 512) / 32 = b.val by omega, show 512 * ((32 * b.val + i.val / 512) % 32) + i.val % 512 = i.val by omega⟩

/-- The third result's array after the run, at an index: the values. -/
theorem array21_at (b : Fin 2) (i : Fin 16384) (h : Fin 8) (d : Fin 64) :
    (dats m 0 c).arrAt 21 cfg0.N (ix3 b i ⟨64 * h.val + d.val, by omega⟩)
      = Cert.Pre.val (m (c.tc.loc main_arg0)) (m (c.tc.loc main_arg1)) (m (c.tc.loc main_arg2)) (m (c.tc.loc main_arg3))
          (m (c.tc.loc main_arg6)) (m (c.tc.loc main_arg7)) b i h d := by
  obtain ⟨t, r, hb, hi⟩ := point_of b i
  refine (blk21 c t b i r hb hi _ _).symm.trans ?_
  refine (congrFun ((Value.blocks21 m c t (flush0_21 t)).trans (Value.flushed21 m c t)) (ix3 0 r ⟨64 * h.val + d.val, by omega⟩)).trans ?_
  refine (out21_at _ _ _ _ _ _ _ _ _ _ _ _ _ _ _ _ _ _ _ r _).trans ?_
  have e : ∀ k : Fin 128, _ = Cert.Pre.lat (m (c.tc.loc main_arg0)) (m (c.tc.loc main_arg1)) (m (c.tc.loc main_arg2)) (m (c.tc.loc main_arg3)) b i k :=
    fun k => point_proj m c t b i r hb hi ⟨256 + k.val, by omega⟩ ⟨256 + k.val, by omega⟩ (fun k' => ent4_lat m c k' k)
  simp only [e]
  exact Finset.sum_congr rfl fun k _ => congrArg₂ (fun y z : EReal => _ * y * z)
    ((blk8 c t (V m c main_v89) k).trans (ent8 m c k)) ((blk10 c t (V m c main_v91) k _).trans (ent10 m c k h d))

/-- The fourth result's array after the run, at an index: the channel images. -/
theorem array22_at (b s : Fin 2) (i : Fin 16384) (j : Fin 512) :
    (dats m 0 c).arrAt 22 cfg0.N (ix4 b s i j)
      = Cert.Pre.four (m (c.tc.loc main_arg0)) (m (c.tc.loc main_arg1)) (m (c.tc.loc main_arg2)) (m (c.tc.loc main_arg3))
          (m (c.tc.loc main_arg10)) b s i j := by
  obtain ⟨t, r, hb, hi⟩ := point_of b i
  refine (blk22 c t b i r hb hi _ s j).symm.trans ?_
  refine (congrFun ((Value.blocks22 m c t (flush0_22 t)).trans (Value.flushed22 m c t)) (ix4 0 s r j)).trans ?_
  refine (out22_at _ _ _ _ _ _ _ _ _ _ _ _ _ _ _ _ _ _ _ s r j).trans ?_
  exact Finset.sum_congr rfl fun k _ => congrArg₂ (fun y z : EReal => y * z)
    (point_proj m c t b i r hb hi ⟨640 + k.val, by omega⟩ ⟨416 + k.val, by omega⟩ (fun k' => ent4_chan m c k' k))
    ((blk18 c t (V m c main_v92) k _).trans (ent18 m c k _))

end Results

end Cert.Kernel4Ideal.Point
-- ==== Proof.AdaRef.lean ====
module

public import proofs.«01_k».proof.Proof.Gen.Reference5Ideal.Run
public import Idealize.ShloMosaic.Lib.Pointwise
public import Idealize.ShloMosaic.Lib.Pipeline.ValueKit

/-! What the fifth reference computes, at an index: the modulation of every layer. -/

@[expose] public section

set_option maxRecDepth 16384

noncomputable section

namespace Cert.Ada

open Idealize.ShloMosaic Idealize.ShloMosaic.TcCoe Idealize.ShloMosaic.Tactic

variable (c : FVec Ideal Cert.Reference5Ideal.S2x1024 .f32) (cc : FVec Ideal Cert.Reference5Ideal.S1024 .f32)
  (w : FVec Ideal Cert.Reference5Ideal.S4x1024x6144 .f32) (bias : FVec Ideal Cert.Reference5Ideal.S4x6144 .f32)

/-- The rows: the two conditions, the context's, zeros. -/
def row (r : Fin 8) (k : Fin 1024) : EReal :=
  if h : r.val < 2 then c (ix2 ⟨r.val, h⟩ k) else if _h : r.val - 2 < 1 then cc (ix1 k) else Ideal.ofBits .f32 0x00000000#32

/-- A layer's modulation of a row. -/
def mod (l : Fin 4) (r : Fin 8) (j : Fin 6144) : EReal :=
  (∑ k : Fin 1024, row c cc r k * Ideal.logistic (row c cc r k) * w (ix3 l k j)) + bias (ix2 l j)

end Cert.Ada

namespace Cert.Reference5Ideal.At

open Idealize.ShloMosaic Idealize.ShloMosaic.TcCoe Idealize.ShloMosaic.Tactic Idealize.SL.Sem
open Cert.Reference5Ideal.Gen

theorem one_eq : Ideal.ofBits .f32 0x3F800000#32 = 1 := by
  simp [Ideal.ofBits, Ideal.ieee]
  exact congrArg Real.toEReal (by norm_num)

/-- The rows, at an index. -/
theorem row_at (c : FVec Ideal S2x1024 .f32) (cc : FVec Ideal S1024 .f32) (r : Fin 8) (k : Fin 1024) :
    (concatenate S8x1024 0 [⟨S2x1024, c⟩, ⟨S1x1024, broadcastInDim S1x1024 ![1] bcast_S1024_S1x1024_1 cc⟩,
      ⟨S5x1024, broadcastInDim S5x1024 ![] bcast_S_S5x1024 (constant S_ .f32 0x00000000#32)⟩] concatenates_S2x1024_S1x1024_S5x1024_S8x1024_d0
      : FVec Ideal S8x1024 .f32) (ix2 r k) = Cert.Ada.row c cc r k := by
  pointwise [Cert.Ada.row]

/-- A modulation at an index, from the rows. -/
theorem mod_at (R : FVec Ideal S8x1024 .f32) (w : FVec Ideal S4x1024x6144 .f32) (bias : FVec Ideal S4x6144 .f32)
    (l : Fin 4) (r : Fin 8) (j : Fin 6144) :
    (addf (transpose S4x8x6144 [0, 2, 1] (Host.dotGeneral dot_S4x1024x6144_S8x1024_S4x6144x8_1_1_02_0_n_n none w
        (mulf R (Host.divf (broadcastInDim S8x1024 ![] bcast_S_S8x1024 (constant S_ .f32 0x3F800000#32))
          (addf (broadcastInDim S8x1024 ![] bcast_S_S8x1024 (constant S_ .f32 0x3F800000#32)) (Host.exp (Host.negf R))))))
        transposes_S4x6144x8_S4x8x6144_0_2_1)
      (broadcastInDim S4x8x6144 ![0, 1, 2] bcast_S4x1x6144_S4x8x6144_0_1_2 (broadcastInDim S4x1x6144 ![0, 2] bcast_S4x6144_S4x1x6144_0_2 bias))
      : FVec Ideal S4x8x6144 .f32) (ix3 l r j)
      = (∑ k : Fin 1024, w (ix3 l k j) * (R (ix2 r k) * Ideal.div (Ideal.ofBits .f32 0x3F800000#32)
          (Ideal.ofBits .f32 0x3F800000#32 + Ideal.exp (-R (ix2 r k))))) + bias (ix2 l j) := by
  pointwise

/-- The fifth reference's run: its result, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (l : Fin 4) (q : Fin 8) (j : Fin 6144),
        r.2.mem ((c.tc : Thread nD τ).loc main_v8) (ix3 l q j)
          = Cert.Ada.mod (m ((c.tc : Thread nD τ).loc main_arg0)) (m ((c.tc : Thread nD τ).loc main_arg1))
            (m ((c.tc : Thread nD τ).loc main_arg2)) (m ((c.tc : Thread nD τ).loc main_arg3)) l q j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ⟨fun l q j => ?_, (hr c).2⟩) (Value.run (F := Ideal) m ρ)
  rw [(hr c).1]
  refine (mod_at _ _ _ l q j).trans (congrArg (fun y : EReal => y + _) (Finset.sum_congr rfl fun k _ => ?_))
  refine (mul_comm _ _).trans (congrArg (fun y : EReal => y * _) ?_)
  rw [one_eq]
  exact congrArg (fun y : EReal => y * Ideal.logistic y) (row_at _ _ q k)

end Cert.Reference5Ideal.At
-- ==== Proof.AdaPoint.lean ====
module

public import proofs.«01_k».proof.Proof.Gen.Kernel5Ideal.Value
public import proofs.«01_k».proof.Proof.AdaRef
public import Idealize.ShloMosaic.Lib.Pointwise
public import Idealize.ShloMosaic.Lib.Pipeline.ValueKit
public import Idealize.ShloMosaic.Lib.StableHlo.ReadAt

/-! What the fifth kernel's array holds after its run, at an index, as a function of the arguments. -/

@[expose] public section

set_option maxRecDepth 16384

noncomputable section

namespace Cert.Kernel5Ideal.Point

open Idealize.ShloMosaic Idealize.ShloMosaic.TcCoe Idealize.ShloMosaic.Tactic
open Cert.Kernel5Ideal.Gen

theorem off2 : (![0, 0] : Fin 2 → ℕ) = fun _ => 0 := by decide
theorem off3 : (![0, 0, 0] : Fin 3 → ℕ) = fun _ => 0 := by decide

/-- A point's modulation, at a row and a column of its block. -/
theorem mod_at (x0 : Vec Ideal S8x1024 .f32) (x1 : Vec Ideal S1x1024x1536 .f32) (x2 : Vec Ideal S1x1x1536 .f32) (r : Fin 8) (j : Fin 1536) :
    k0_pay1 x0 x1 x2 (ix3 0 r j)
      = (∑ k : Fin 1024, x0 (ix2 r k) * Ideal.logistic (x0 (ix2 r k)) * x1 (ix3 0 k j)) + x2 (ix3 0 0 j) := by
  pointwise [k0_pay1]

/-- The block a point leaves, at an index. -/
theorem out3_at (x0 : Vec Ideal S8x1024 .f32) (x1 : Vec Ideal S1x1024x1536 .f32) (x2 : Vec Ideal S1x1x1536 .f32) (r : Fin 8) (j : Fin 1536) :
    out0_3 x0 x1 x2 (ix3 0 r j)
      = (∑ k : Fin 1024, x0 (ix2 r k) * Ideal.logistic (x0 (ix2 r k)) * x1 (ix3 0 k j)) + x2 (ix3 0 0 j) := by
  unfold out0_3
  have e0 : View.ld x0 r0_0 = x0 := View.ld_unit_zero off2 _ x0
  have e1 : View.ld x1 r0_1 = x1 := View.ld_unit_zero off3 _ x1
  have e2 : View.ld x2 r0_2 = x2 := View.ld_unit_zero off3 _ x2
  rw [View.canon_unit_zero off3, e0, e1, e2]
  exact mod_at x0 x1 x2 r j

variable (m : (ℓ : Loc nD τ sig) → Buf (Elt Ideal) ℓ) (c : Dev nD)

/-- The array indices of the windows' blocks, over the point. -/
theorem idx0 (t : Fin cfg0.N) : win0_0.index t = ![0, 0] :=
  (by decide +kernel : ∀ t : Fin grid0.N, win0_0.index t = ![0, 0]) t
theorem idx1 (t : Fin cfg0.N) : win0_1.index t = ![t.val / 4, 0, t.val % 4] :=
  (by decide +kernel : ∀ t : Fin grid0.N, win0_1.index t = ![t.val / 4, 0, t.val % 4]) t
theorem idx2 (t : Fin cfg0.N) : win0_2.index t = ![t.val / 4, 0, t.val % 4] :=
  (by decide +kernel : ∀ t : Fin grid0.N, win0_2.index t = ![t.val / 4, 0, t.val % 4]) t
theorem idx3 (t : Fin cfg0.N) : win0_3.index t = ![t.val / 4, 0, t.val % 4] :=
  (by decide +kernel : ∀ t : Fin grid0.N, win0_3.index t = ![t.val / 4, 0, t.val % 4]) t

/-- The arrays the call reads, at an index, over the arguments. -/
theorem ent0 (r : Fin 8) (k : Fin 1024) : V m c main_v2 (ix2 r k) = Cert.Ada.row (m (c.tc.loc main_arg0)) (m (c.tc.loc main_arg1)) r k := by
  unfold V
  after_reads_at
  unfold Cert.Ada.row
  split
  · after_reads_at
  · split
    · after_reads_at
    · after_reads_at
theorem ent2 (l : Fin 4) (j : Fin 6144) : V m c main_v3 (ix3 l 0 j) = m (c.tc.loc main_arg3) (ix2 l j) := by
  unfold V
  after_reads_at

theorem layer_lt (t : Fin cfg0.N) : t.val / 4 < 4 := by have := lt_of_lt_of_eq t.isLt N_0; omega
theorem col_lt (t : Fin cfg0.N) (q : Fin 1536) : 1536 * (t.val % 4) + q.val < 6144 := by omega

section Blocks

variable (t : Fin cfg0.N) (l : Fin 4) (j : Fin 6144) (q : Fin 1536) (hl : t.val / 4 = l.val) (hj : 1536 * (t.val % 4) + q.val = j.val)

/-- A point's block of the rows is the rows. -/
theorem blk0 (X : Buf (Elt Ideal) (c.tc.loc main_v2 : Loc nD τ sig)) (r : Fin 8) (k : Fin 1024) :
    View.read (Elt Ideal) ((cfg0.win 0).blk t).view X (ix2 r k : S8x1024.Idx) = X (ix2 r k) := by
  blk_ext [idx0 t]

include hl hj in
/-- A point's block of the weights. -/
theorem blk1 (X : Buf (Elt Ideal) (c.tc.loc main_arg2 : Loc nD τ sig)) (k : Fin 1024) :
    View.read (Elt Ideal) ((cfg0.win 1).blk t).view X (ix3 0 k q : S1x1024x1536.Idx) = X (ix3 l k j) := by
  obtain rfl : l = ⟨t.val / 4, layer_lt t⟩ := Fin.ext hl.symm
  obtain rfl : j = ⟨1536 * (t.val % 4) + q.val, col_lt t q⟩ := Fin.ext hj.symm
  blk_ext [idx1 t]

include hl hj in
/-- A point's block of the biases. -/
theorem blk2 (X : Buf (Elt Ideal) (c.tc.loc main_v3 : Loc nD τ sig)) :
    View.read (Elt Ideal) ((cfg0.win 2).blk t).view X (ix3 0 0 q : S1x1x1536.Idx) = X (ix3 l 0 j) := by
  obtain rfl : l = ⟨t.val / 4, layer_lt t⟩ := Fin.ext hl.symm
  obtain rfl : j = ⟨1536 * (t.val % 4) + q.val, col_lt t q⟩ := Fin.ext hj.symm
  blk_ext [idx2 t]

include hl hj in
/-- A point's block of the result. -/
theorem blk3 (X : Buf (Elt Ideal) (c.tc.loc main_v4 : Loc nD τ sig)) (r : Fin 8) :
    View.read (Elt Ideal) ((cfg0.win 3).blk t).view X (ix3 0 r q : S1x8x1536.Idx) = X (ix3 l r j) := by
  obtain rfl : l = ⟨t.val / 4, layer_lt t⟩ := Fin.ext hl.symm
  obtain rfl : j = ⟨1536 * (t.val % 4) + q.val, col_lt t q⟩ := Fin.ext hj.symm
  blk_ext [idx3 t]

end Blocks

/-- The point that computes a layer's column. -/
theorem point_of (l : Fin 4) (j : Fin 6144) : ∃ (t : Fin cfg0.N) (q : Fin 1536), t.val / 4 = l.val ∧ 1536 * (t.val % 4) + q.val = j.val :=
  ⟨⟨4 * l.val + j.val / 1536, lt_of_lt_of_eq (show _ < 16 by omega) N_0.symm⟩, ⟨j.val % 1536, by omega⟩,
    show (4 * l.val + j.val / 1536) / 4 = l.val by omega, show 1536 * ((4 * l.val + j.val / 1536) % 4) + j.val % 1536 = j.val by omega⟩

/-- The result's array after the run, at an index. -/
theorem array_at (l : Fin 4) (r : Fin 8) (j : Fin 6144) :
    (dats m 0 c).arrAt 3 cfg0.N (ix3 l r j)
      = Cert.Ada.mod (m (c.tc.loc main_arg0)) (m (c.tc.loc main_arg1)) (m (c.tc.loc main_arg2)) (m (c.tc.loc main_arg3)) l r j := by
  obtain ⟨t, q, hl, hj⟩ := point_of l j
  refine (blk3 c t l j q hl hj _ r).symm.trans ?_
  refine (congrFun ((Value.blocks3 m c t (flush0_3 t)).trans (Value.flushed3 m c t)) (ix3 0 r q)).trans ?_
  refine (out3_at _ _ _ r q).trans ?_
  refine congrArg₂ (fun y z : EReal => y + z) (Finset.sum_congr rfl fun k _ => ?_) ((blk2 c t l j q hl hj (V m c main_v3)).trans (ent2 m c l j))
  exact congrArg₂ (fun y z : EReal => y * Ideal.logistic y * z) ((blk0 c t (V m c main_v2) r k).trans (ent0 m c r k))
    ((blk1 c t l j q hl hj (V m c main_arg2) k).trans (congrFun (V_main_arg2 m c) _))

end Cert.Kernel5Ideal.Point
-- ==== Proof.lean ====
/- The certificate's claim, assembled. The two frames of the kernel are one generated run, read at the two kinds of float; the
   value claim puts the array the kernel leaves (Proof/Array.lean) beside the reference's result (Proof/Ref.lean), equal by the
   equation of Proof/Equation.lean under the precondition read in Proof/Finite.lean. The second value claim puts the arrays of
   Proof/PostPoint.lean beside the results of Proof/PostRef.lean. The third puts the table of Proof/RoutePoint.lean beside that of
   Proof/RouteRef.lean, equal by the equation of Proof/Route.lean under the precondition read in Proof/Finite3.lean; the third
   kernel's runs are the second's (Proof/Same.lean). The fourth puts the arrays of Proof/PrePoint.lean beside the results of
   Proof/PreRef.lean, the fifth the array of Proof/AdaPoint.lean beside the result of Proof/AdaRef.lean. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Array
public import proofs.«01_k».proof.Proof.PostPoint
public import proofs.«01_k».proof.Proof.Finite
public import proofs.«01_k».proof.Proof.RoutePoint
public import proofs.«01_k».proof.Proof.RouteRef
public import proofs.«01_k».proof.Proof.Finite3
public import proofs.«01_k».proof.Proof.Same
public import proofs.«01_k».proof.Proof.PrePoint
public import proofs.«01_k».proof.Proof.AdaPoint
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments and has no semaphore. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- An index of the result: a batch, a head and an entry of it, and a query. -/
theorem index_eq (y : Cert.ReferenceIdeal.S2x512x16384.Idx) :
    ∃ (b : Fin 2) (h : Fin 8) (d : Fin 64) (i : Fin 16384), y = ix3 b ⟨64 * h.val + d.val, by omega⟩ i := by
  have h1 : (y 1).val < 512 := (y 1).isLt
  refine ⟨y 0, ⟨(y 1).val / 64, by omega⟩, ⟨(y 1).val % 64, by omega⟩, y 2, ?_⟩
  funext a
  match a with
  | ⟨0, _⟩ => rfl
  | ⟨1, _⟩ => exact Fin.ext (show (y 1).val = 64 * ((y 1).val / 64) + (y 1).val % 64 by omega)
  | ⟨2, _⟩ => rfl

/-- Over finite queries and keys the kernel and the reference leave the same result. -/
theorem algebraic : algebraic_KernelIdeal_ReferenceIdeal_pre_finite_scores (hPre_finite_scores := Cert.Finite.facts) := by
  intro m ρ m' ρ' hpre hagree
  refine ⟨_, Cert.KernelIdeal.Value.run (F := Ideal) m ρ, ?_⟩
  refine (θ_run Cert.ReferenceIdeal.defs _ _).mono (fun r h c => ⟨?_, (h c).2⟩) (Cert.ReferenceIdeal.At.run m' ρ')
  funext y
  obtain ⟨b, hd, d, i, rfl⟩ := index_eq y
  refine ((h c).1 b hd d i).trans ?_
  obtain ⟨e0, e1, e2, e3, e4⟩ := hagree c
  rw [e0, e1, e2, e3, e4]
  obtain ⟨⟨f0, f1⟩, f2⟩ := @Cert.Finite.reals Cert.Finite.facts _ _ _ _ _ (hpre c)
  exact ((Cert.KernelIdeal.Array.array_at m c b hd d i).trans (Cert.Attn.online_eq _ _ f0 f1 f2 b hd d i)).symm

/-- The second reference runs, leaves its arguments and has no semaphore. -/
theorem quiescent_Reference2Ideal : quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- An index of a result of the second pair: a batch, a row and a column. -/
theorem index3_eq (y : Cert.Reference2Ideal.S2x16384x1024.Idx) :
    ∃ (b : Fin 2) (i : Fin 16384) (j : Fin 1024), y = ix3 b i j := by
  refine ⟨y 0, y 1, y 2, ?_⟩
  funext a
  match a with
  | ⟨0, _⟩ => rfl
  | ⟨1, _⟩ => rfl
  | ⟨2, _⟩ => rfl

/-- The second kernel and its reference leave the same results, over every input. -/
theorem algebraic2 : algebraic_Kernel2Ideal_Reference2Ideal := by
  intro m ρ m' ρ' _ hagree
  refine ⟨_, _, (θ_run Cert.Kernel2Ideal.defs _ _).mono (fun r h c => ⟨(h c).1, (h c).2.1, (h c).2.2.2⟩)
    (Cert.Kernel2Ideal.Value.run_blocks (F := Ideal) m ρ), ?_⟩
  refine (θ_run Cert.Reference2Ideal.defs _ _).mono (fun r h c => ⟨?_, ?_, (h c).2.2⟩) (Cert.Reference2Ideal.At.run m' ρ')
  · funext y
    obtain ⟨b, i, j, rfl⟩ := index3_eq y
    refine ((h c).1 b i j).trans ?_
    obtain ⟨e0, e1, e2, e3, e4, e5, -⟩ := hagree c
    rw [e0, e1, e2, e3, e5]
    exact (Cert.Kernel2Ideal.Point.array10_at m c b i j).symm
  · funext y
    obtain ⟨b, i, j, rfl⟩ := index3_eq y
    refine ((h c).2.1 b i j).trans ?_
    obtain ⟨e0, e1, e2, e3, e4, e5, -⟩ := hagree c
    rw [e0, e1, e2, e3, e4, e5]
    exact (Cert.Kernel2Ideal.Point.array11_at m c b i j).symm

/-- The third reference runs, leaves its arguments and has no semaphore. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- An index of the table: a batch, a row of it and a position. -/
theorem index_table_eq (y : Cert.Reference3Ideal.S2x16x16384.Idx) :
    ∃ (b : Fin 2) (e : Fin 16) (i : Fin 16384), y = ix3 b e i := by
  refine ⟨y 0, y 1, y 2, ?_⟩
  funext a
  match a with
  | ⟨0, _⟩ => rfl
  | ⟨1, _⟩ => rfl
  | ⟨2, _⟩ => rfl

/-- Over finite inputs of the layer the third kernel and its reference leave the same table. -/
theorem algebraic3 : algebraic_Kernel3Ideal_Reference3Ideal_pre_finite_layer (hPre_finite_layer := Cert.Finite3.facts) := by
  intro m ρ m' ρ' hpre hagree
  rw [Cert.Same.tablesIdeal]
  refine ⟨_, (θ_run Cert.Kernel2Ideal.defs _ _).mono (fun _ h c => (h c).2.2) (Cert.Kernel2Ideal.Value.run_blocks (F := Ideal) m ρ), ?_⟩
  refine (θ_run Cert.Reference3Ideal.defs _ _).mono (fun r h c => ⟨?_, (h c).2⟩) (Cert.Reference3Ideal.At.run m' ρ')
  funext y
  obtain ⟨b, e, i, rfl⟩ := index_table_eq y
  refine ((h c).1 b e i).trans ?_
  obtain ⟨e0, e1, e2, e3, e4, e5, e6, e7⟩ := hagree c
  rw [e0, e1, e2, e3, e4, e5, e6, e7]
  obtain ⟨f0, f1, f2, f3, f4, f5, f6⟩ := @Cert.Finite3.reals Cert.Finite3.facts _ _ _ _ _ _ _ _ (hpre c)
  exact ((Cert.Kernel2Ideal.Point.array12_at m c b e i).trans (Cert.Route.compared_eq _ _
    (fun g k => Cert.Finite3.score_pos _ _ _ _ _ _ f0 f1 f2 f3 f4 f5 _ f6 b i (Cert.Route.at16 g k)) e)).symm

/-- The fourth reference runs, leaves its arguments and has no semaphore. -/
theorem quiescent_Reference4Ideal : quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- An index of the values: a batch, a position, a head and an entry of it. -/
theorem index_values_eq (y : Cert.Reference4Ideal.S2x16384x512.Idx) :
    ∃ (b : Fin 2) (i : Fin 16384) (h : Fin 8) (d : Fin 64), y = ix3 b i ⟨64 * h.val + d.val, by omega⟩ := by
  have h2 : (y 2).val < 512 := (y 2).isLt
  refine ⟨y 0, y 1, ⟨(y 2).val / 64, by omega⟩, ⟨(y 2).val % 64, by omega⟩, ?_⟩
  funext a
  match a with
  | ⟨0, _⟩ => rfl
  | ⟨1, _⟩ => rfl
  | ⟨2, _⟩ => exact Fin.ext (show (y 2).val = 64 * ((y 2).val / 64) + (y 2).val % 64 by omega)

/-- An index of the channel images: a batch, an image, a position and a channel. -/
theorem index_images_eq (y : Cert.Reference4Ideal.S2x2x16384x512.Idx) :
    ∃ (b s : Fin 2) (i : Fin 16384) (j : Fin 512), y = ix4 b s i j := by
  refine ⟨y 0, y 1, y 2, y 3, ?_⟩
  funext a
  match a with
  | ⟨0, _⟩ => rfl
  | ⟨1, _⟩ => rfl
  | ⟨2, _⟩ => rfl
  | ⟨3, _⟩ => rfl

/-- The fourth kernel and its reference leave the same values and the same channel images. -/
theorem algebraic4 : algebraic_Kernel4Ideal_Reference4Ideal := by
  intro m ρ m' ρ' _ hagree
  refine ⟨_, _, (θ_run Cert.Kernel4Ideal.defs _ _).mono (fun r h c => (h c).2.2)
    (Cert.Kernel4Ideal.Value.run_blocks (F := Ideal) m ρ), ?_⟩
  refine (θ_run Cert.Reference4Ideal.defs _ _).mono (fun r h c => ⟨?_, ?_, (h c).2.2⟩) (Cert.Reference4Ideal.At.run m' ρ')
  · funext y
    obtain ⟨b, i, hd, d, rfl⟩ := index_values_eq y
    refine ((h c).1 b i hd d).trans ?_
    obtain ⟨e0, e1, e2, e3, -, -, e6, e7, -⟩ := hagree c
    rw [e0, e1, e2, e3, e6, e7]
    exact (Cert.Kernel4Ideal.Point.array21_at m c b i hd d).symm
  · funext y
    obtain ⟨b, s, i, j, rfl⟩ := index_images_eq y
    refine ((h c).2.1 b s i j).trans ?_
    obtain ⟨e0, e1, e2, e3, -, -, -, -, -, -, e10, -⟩ := hagree c
    rw [e0, e1, e2, e3, e10]
    exact (Cert.Kernel4Ideal.Point.array22_at m c b s i j).symm

/-- The fifth reference runs, leaves its arguments and has no semaphore. -/
theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- An index of the modulations: a layer, a row and a column. -/
theorem index_mod_eq (y : Cert.Reference5Ideal.S4x8x6144.Idx) :
    ∃ (l : Fin 4) (q : Fin 8) (j : Fin 6144), y = ix3 l q j := by
  refine ⟨y 0, y 1, y 2, ?_⟩
  funext a
  match a with
  | ⟨0, _⟩ => rfl
  | ⟨1, _⟩ => rfl
  | ⟨2, _⟩ => rfl

/-- The fifth kernel and its reference leave the same modulations. -/
theorem algebraic5 : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun r h c => ⟨?_, (h c).2⟩) (Cert.Reference5Ideal.At.run m' ρ')
  funext y
  obtain ⟨l, q, j, rfl⟩ := index_mod_eq y
  refine ((h c).1 l q j).trans ?_
  obtain ⟨e0, e1, e2, e3⟩ := hagree c
  rw [e0, e1, e2, e3]
  exact (Cert.Kernel5Ideal.Point.array_at m c l q j).symm

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Same.facts_Kernel3, Cert.Same.facts_Kernel3Ideal, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Finite.facts, Cert.Finite3.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  Cert.Same.quiescent_Kernel3, Cert.Same.quiescent_Kernel3Ideal, fun m ρ _ => Cert.Same.quiescent_Kernel3Ideal m ρ trivial,
  quiescent_Reference3Ideal, fun m ρ _ => quiescent_Reference3Ideal m ρ trivial,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  (trivial : preserves_Kernel_KernelIdeal), algebraic, (trivial : preserves_Kernel2_Kernel2Ideal), algebraic2,
  (trivial : preserves_Kernel3_Kernel3Ideal), algebraic3,
  (trivial : preserves_Kernel4_Kernel4Ideal), algebraic4,
  (trivial : preserves_Kernel5_Kernel5Ideal), algebraic5⟩

end Cert.Proof

end
